-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x23 : Shape := ⟨2, ![4096, 23]⟩
abbrev S23x100000x64 : Shape := ⟨3, ![23, 100000, 64]⟩
abbrev S_ : Shape := ⟨0, ![]⟩

class Facts : Prop where
  bcast_S_S4096x23 : S_.BroadcastsInDim S4096x23 (![] : Fin 0 → Fin S4096x23.rank)
  reducesTo_S4096x23_S_d0_1 : S4096x23.ReducesTo [0, 1] S_
  h_S_ : 0 < S_.numel

variable [Facts]

def fn {F : FTy → Type} [FloatOps F] (main_arg0 : IVec S4096x23 32) (main_arg1 : FVec F S23x100000x64 .f32) : IVec S_ 1 :=
  let main_c : IVec S_ 32 := constantI S_ 32 0#32
  let main_v0 : IVec S4096x23 32 := broadcastInDim S4096x23 ![] bcast_S_S4096x23 main_c
  let main_v1 : IVec S4096x23 1 := cmpi .sge main_arg0 main_v0
  let main_c_0 : IVec S_ 32 := constantI S_ 32 100000#32
  let main_v2 : IVec S4096x23 32 := broadcastInDim S4096x23 ![] bcast_S_S4096x23 main_c_0
  let main_v3 : IVec S4096x23 1 := cmpi .slt main_arg0 main_v2
  let main_v4 : IVec S4096x23 1 := andi main_v1 main_v3
  let main_c_1 : IVec S_ 1 := constantI S_ 1 1#1
  let main_v5 : IVec S_ 1 := (fun x v => Host.reduce IntOp.andi x v reducesTo_S4096x23_S_d0_1 h_S_) main_v4 main_c_1
  main_v5
-- ==== Kernel.lean ====
abbrev S4096x23 : Shape := ⟨2, ![4096, 23]⟩
abbrev S23x100000x64 : Shape := ⟨3, ![23, 100000, 64]⟩
abbrev S23x4096 : Shape := ⟨2, ![23, 4096]⟩
abbrev S23x64x100000 : Shape := ⟨3, ![23, 64, 100000]⟩
abbrev S1472x4096 : Shape := ⟨2, ![1472, 4096]⟩
abbrev S2x4096 : Shape := ⟨2, ![2, 4096]⟩
abbrev S100000 : Shape := ⟨1, ![100000]⟩
abbrev S4096 : Shape := ⟨1, ![4096]⟩
abbrev S_ : Shape := ⟨0, ![]⟩
abbrev S1x4096 : Shape := ⟨2, ![1, 4096]⟩
abbrev S16 : Shape := ⟨1, ![16]⟩
abbrev S1x1x100000 : Shape := ⟨3, ![1, 1, 100000]⟩
abbrev S4096x1472 : Shape := ⟨2, ![4096, 1472]⟩

abbrev nBuf : Table → Nat
  | .hbm => 6
  | .local .scVector .vmem => 3
  | _ => 0

abbrev bufTy : (tb : Table) → Fin (nBuf tb) → BufTy
  | .hbm, ⟨0, _⟩ => ⟨S4096x23, .i32⟩
  | .hbm, ⟨1, _⟩ => ⟨S23x100000x64, .f32⟩
  | .hbm, ⟨2, _⟩ => ⟨S23x4096, .i32⟩
  | .hbm, ⟨3, _⟩ => ⟨S23x64x100000, .f32⟩
  | .hbm, ⟨4, _⟩ => ⟨S1472x4096, .f32⟩
  | .hbm, ⟨5, _⟩ => ⟨S4096x1472, .f32⟩
  | .local .scVector .vmem, ⟨0, _⟩ => ⟨S2x4096, .i32⟩
  | .local .scVector .vmem, ⟨1, _⟩ => ⟨S100000, .f32⟩
  | .local .scVector .vmem, ⟨2, _⟩ => ⟨S4096, .f32⟩
  | _, _ => ⟨S4096x23, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c46_i32 : BitVec 32 := 46#32
  let v2 : BitVec 32 := Scalar.muli v1 c46_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c0_i32_12_r0 : BitVec 32 := 0#32
  ![v19.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c46_i32 : BitVec 32 := 46#32
  let v2 : BitVec 32 := Scalar.muli v1 c46_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c64_i32 : BitVec 32 := 64#32
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let v3 : BitVec 32 := Scalar.divsi v2 c64_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let c22_i32 : BitVec 32 := 22#32
  let v21 : BitVec 32 := Scalar.minsi v20 c22_i32
  let c0_i32_12_r1 : BitVec 32 := 0#32
  ![v21.toNat, 0]
@[reducible] def k0_t1_loop : Scf.Loop 32 :=
  let c0_i32_6 : BitVec 32 := 0#32
  let c46_i32_7 : BitVec 32 := 46#32
  let v24 : BitVec 32 := Scalar.addi c0_i32_6 c46_i32_7
  let c1_i32_8 : BitVec 32 := 1#32
  ⟨c0_i32_6, v24, c1_i32_8⟩
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c46_i32 : BitVec 32 := 46#32
  let v2 : BitVec 32 := Scalar.muli v1 c46_i32
  let c0_i32_11 : BitVec 32 := 0#32
  let c0_i32_6 : BitVec 32 := 0#32
  let c1_i32_8 : BitVec 32 := 1#32
  let arg8 : BitVec 32 := Scf.iv c0_i32_6 c1_i32_8 k0_t1
  let c1_i32_10 : BitVec 32 := 1#32
  let v25 : BitVec 32 := Scalar.muli arg8 c1_i32_10
  let v26 : BitVec 32 := Scalar.addi c0_i32_11 v25
  let v27 : BitVec 32 := Scalar.addi v2 v26
  let c0_i32_13 : BitVec 32 := 0#32
  let v29 : BitVec 1 := Scalar.cmpi .sgt v27 c0_i32_13
  let v30 : BitVec 32 := Scalar.extui v29
  let c0_i32_14 : BitVec 32 := 0#32
  let v31 : BitVec 1 := Scalar.cmpi .slt v27 c0_i32_14
  let v32 : BitVec 32 := Scalar.extui v31
  let v33 : BitVec 32 := Scalar.subi v30 v32
  let c64_i32_12 : BitVec 32 := 64#32
  let c0_i32_15 : BitVec 32 := 0#32
  let v34 : BitVec 1 := Scalar.cmpi .sgt c64_i32_12 c0_i32_15
  let v35 : BitVec 32 := Scalar.extui v34
  let c0_i32_16 : BitVec 32 := 0#32
  let v36 : BitVec 1 := Scalar.cmpi .slt c64_i32_12 c0_i32_16
  let v37 : BitVec 32 := Scalar.extui v36
  let v38 : BitVec 32 := Scalar.subi v35 v37
  let v39 : BitVec 1 := Scalar.cmpi .ne v33 v38
  let v40 : BitVec 32 := Scalar.remsi v27 c64_i32_12
  let c0_i32_17 : BitVec 32 := 0#32
  let v41 : BitVec 1 := Scalar.cmpi .ne v40 c0_i32_17
  let v42 : BitVec 1 := Scalar.andi v39 v41
  let v28 : BitVec 32 := Scalar.divsi v27 c64_i32_12
  let c1_i32_18 : BitVec 32 := 1#32
  let v43 : BitVec 32 := Scalar.subi v28 c1_i32_18
  let v44 : BitVec 32 := Scalar.select v42 v43 v28
  let c64_i32_19 : BitVec 32 := 64#32
  let v45 : BitVec 32 := Scalar.remsi v27 c64_i32_19
  let c0_i32_23_r2 : BitVec 32 := 0#32
  ![v44.toNat, v45.toNat, 0]
@[reducible] def k0_t2_loop : Scf.Loop 32 :=
  let c0_i32_20 : BitVec 32 := 0#32
  let c128_i32 : BitVec 32 := 128#32
  let v49 : BitVec 32 := Scalar.addi c0_i32_20 c128_i32
  let c1_i32_21 : BitVec 32 := 1#32
  ⟨c0_i32_20, v49, c1_i32_21⟩

def k0_chk1 (v48 : IVec S16 32) (v54 : IVec S16 32) : Prop :=
  (∀ a x, ((![v48, v54] : Fin 2 → IVec S16 32) a x).toNat < S2x4096.size a)
theorem k0_idx1_inb : ∀ (v48 : IVec S16 32) (v54 : IVec S16 32) (k0_hw1 : k0_chk1 v48 v54), ∀ a x, ((![v48, v54] : Fin 2 → IVec S16 32) a x).toNat < S2x4096.size a := fun v48 v54 k0_hw1 => k0_hw1

def k0_chk2 (v55 : IVec S16 32) : Prop :=
  (∀ a x, ((![v55] : Fin 1 → IVec S16 32) a x).toNat < S100000.size a)
theorem k0_idx2_inb : ∀ (v55 : IVec S16 32) (k0_hw2 : k0_chk2 v55), ∀ a x, ((![v55] : Fin 1 → IVec S16 32) a x).toNat < S100000.size a := fun v55 k0_hw2 => k0_hw2
def k0_off4 (k0_t2 : Fin k0_t2_loop.trips) : Fin 1 → Nat :=
  let c0_i32_23 : BitVec 32 := 0#32
  let c0_i32_20 : BitVec 32 := 0#32
  let c1_i32_21 : BitVec 32 := 1#32
  let arg9 : BitVec 32 := Scf.iv c0_i32_20 c1_i32_21 k0_t2
  let c32_i32 : BitVec 32 := 32#32
  let v50 : BitVec 32 := Scalar.muli arg9 c32_i32
  let v51 : BitVec 32 := Scalar.addi c0_i32_23 v50
  let c0_i32_24 : BitVec 32 := 0#32
  let v52 : BitVec 32 := Scalar.addi v51 c0_i32_24
  let v57 : Index := Scalar.indexCast v52
  ![v57.toNat]

def k0_chk3 (v48 : IVec S16 32) (v61 : IVec S16 32) : Prop :=
  (∀ a x, ((![v48, v61] : Fin 2 → IVec S16 32) a x).toNat < S2x4096.size a)
theorem k0_idx3_inb : ∀ (v48 : IVec S16 32) (v61 : IVec S16 32) (k0_hw3 : k0_chk3 v48 v61), ∀ a x, ((![v48, v61] : Fin 2 → IVec S16 32) a x).toNat < S2x4096.size a := fun v48 v61 k0_hw3 => k0_hw3

def k0_chk4 (v62 : IVec S16 32) : Prop :=
  (∀ a x, ((![v62] : Fin 1 → IVec S16 32) a x).toNat < S100000.size a)
theorem k0_idx4_inb : ∀ (v62 : IVec S16 32) (k0_hw4 : k0_chk4 v62), ∀ a x, ((![v62] : Fin 1 → IVec S16 32) a x).toNat < S100000.size a := fun v62 k0_hw4 => k0_hw4
def k0_off5 (k0_t2 : Fin k0_t2_loop.trips) : Fin 1 → Nat :=
  let c0_i32_23 : BitVec 32 := 0#32
  let c0_i32_20 : BitVec 32 := 0#32
  let c1_i32_21 : BitVec 32 := 1#32
  let arg9 : BitVec 32 := Scf.iv c0_i32_20 c1_i32_21 k0_t2
  let c32_i32 : BitVec 32 := 32#32
  let v50 : BitVec 32 := Scalar.muli arg9 c32_i32
  let v51 : BitVec 32 := Scalar.addi c0_i32_23 v50
  let c16_i32 : BitVec 32 := 16#32
  let v59 : BitVec 32 := Scalar.addi v51 c16_i32
  let v64 : Index := Scalar.indexCast v59
  ![v64.toNat]
def k0_off6 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c46_i32 : BitVec 32 := 46#32
  let v2 : BitVec 32 := Scalar.muli v1 c46_i32
  let c0_i32_11 : BitVec 32 := 0#32
  let c0_i32_6 : BitVec 32 := 0#32
  let c1_i32_8 : BitVec 32 := 1#32
  let arg8 : BitVec 32 := Scf.iv c0_i32_6 c1_i32_8 k0_t1
  let c1_i32_10 : BitVec 32 := 1#32
  let v25 : BitVec 32 := Scalar.muli arg8 c1_i32_10
  let v26 : BitVec 32 := Scalar.addi c0_i32_11 v25
  let v27 : BitVec 32 := Scalar.addi v2 v26
  let c0_i32_23_r3 : BitVec 32 := 0#32
  ![v27.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x23 : Shape := ⟨2, ![4096, 23]⟩
abbrev S23x100000x64 : Shape := ⟨3, ![23, 100000, 64]⟩
abbrev S_ : Shape := ⟨0, ![]⟩
abbrev S23x4096 : Shape := ⟨2, ![23, 4096]⟩
abbrev S23x4096x1 : Shape := ⟨3, ![23, 4096, 1]⟩
abbrev S1 : Shape := ⟨1, ![1]⟩
abbrev S1x1x1 : Shape := ⟨3, ![1, 1, 1]⟩
abbrev S23x4096x64 : Shape := ⟨3, ![23, 4096, 64]⟩
abbrev S4096x23x64 : Shape := ⟨3, ![4096, 23, 64]⟩
abbrev S4096x1472 : Shape := ⟨2, ![4096, 1472]⟩

abbrev nBuf : Space → Nat
  | .hbm => 28
  | .vmem => 0
  | .smem => 0
  | _ => 0

abbrev bufTy : (tb : Table) → Fin (tcTables nBuf tb) → BufTy
  | .hbm, ⟨0, _⟩ => ⟨S4096x23, .i32⟩
  | .hbm, ⟨1, _⟩ => ⟨S23x100000x64, .f32⟩
  | .hbm, ⟨2, _⟩ => ⟨S_, .i32⟩
  | .hbm, ⟨3, _⟩ => ⟨S4096x23, .i32⟩
  | .hbm, ⟨4, _⟩ => ⟨S4096x23, .i1⟩
  | .hbm, ⟨5, _⟩ => ⟨S_, .i32⟩
  | .hbm, ⟨6, _⟩ => ⟨S4096x23, .i32⟩
  | .hbm, ⟨7, _⟩ => ⟨S4096x23, .i32⟩
  | .hbm, ⟨8, _⟩ => ⟨S4096x23, .i32⟩
  | .hbm, ⟨9, _⟩ => ⟨S23x4096, .i32⟩
  | .hbm, ⟨10, _⟩ => ⟨S23x4096x1, .i32⟩
  | .hbm, ⟨11, _⟩ => ⟨S1, .i32⟩
  | .hbm, ⟨12, _⟩ => ⟨S_, .i32⟩
  | .hbm, ⟨13, _⟩ => ⟨S23x4096x1, .i32⟩
  | .hbm, ⟨14, _⟩ => ⟨S23x4096x1, .i1⟩
  | .hbm, ⟨15, _⟩ => ⟨S1x1x1, .i32⟩
  | .hbm, ⟨16, _⟩ => ⟨S23x4096x1, .i32⟩
  | .hbm, ⟨17, _⟩ => ⟨S23x4096x1, .i1⟩
  | .hbm, ⟨18, _⟩ => ⟨S23x4096x1, .i1⟩
  | .hbm, ⟨19, _⟩ => ⟨S_, .i1⟩
  | .hbm, ⟨20, _⟩ => ⟨S23x4096, .i1⟩
  | .hbm, ⟨21, _⟩ => ⟨S23x4096x64, .f32⟩
  | .hbm, ⟨22, _⟩ => ⟨S23x4096x64, .i1⟩
  | .hbm, ⟨23, _⟩ => ⟨S_, .f32⟩
  | .hbm, ⟨24, _⟩ => ⟨S23x4096x64, .f32⟩
  | .hbm, ⟨25, _⟩ => ⟨S23x4096x64, .f32⟩
  | .hbm, ⟨26, _⟩ => ⟨S4096x23x64, .f32⟩
  | .hbm, ⟨27, _⟩ => ⟨S4096x1472, .f32⟩
  | _, _ => ⟨S4096x23, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_c_1 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_c_3 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_cst : Ref sig .tc := ⟨.hbm, 23, rfl⟩
abbrev main_call0_v16 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.KI.Words.lean ====
/-
  The kernel's scalar words, in closed form: the tile's first output row, the field of that row, and the offsets of the
  rows it copies. The launch has 32 tiles and each takes 46 rows, so the facts about rows are checked tile by tile.
-/
module

public import proofs.«01_k».proof.Defs
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic

/-- The first output row of tile `L`: the tiles are numbered subcore first, and each takes 46 rows. -/
abbrev p0 (L : grid0.Coords) : ℕ := 92 * (L 1).val + 46 * (L 0).val

theorem p0_le (L : grid0.Coords) : p0 L + 46 ≤ 1472 := by
  have h1 : (L 1).val < 16 := (L 1).isLt
  have h0 : (L 0).val < 2 := (L 0).isLt
  unfold p0; omega

theorem trips1 : k0_t1_loop.trips = 46 := by decide +kernel
theorem trips2 : k0_t2_loop.trips = 128 := by decide +kernel

/-- The word holding the tile's first output row. -/
def w2 (i : grid0.Coords) : BitVec 32 :=
  Scalar.muli (Scalar.addi (Scalar.muli (BitVec.ofNat 32 (i 1).val) 2#32) (BitVec.ofNat 32 (i 0).val)) 46#32

/-- The word holding the field of the tile's first output row: that row's number over 64, rounded down. -/
def w19 (i : grid0.Coords) : BitVec 32 :=
  Scalar.select
    (Scalar.andi
      (Scalar.cmpi .ne
        (Scalar.subi (Scalar.extui (Scalar.cmpi .sgt (w2 i) 0#32) : BitVec 32) (Scalar.extui (Scalar.cmpi .slt (w2 i) 0#32)))
        (Scalar.subi (Scalar.extui (Scalar.cmpi .sgt 64#32 0#32) : BitVec 32) (Scalar.extui (Scalar.cmpi .slt 64#32 0#32))))
      (Scalar.cmpi .ne (Scalar.remsi (w2 i) 64#32) 0#32))
    (Scalar.subi (Scalar.divsi (w2 i) 64#32) 1#32) (Scalar.divsi (w2 i) 64#32)

/-- The first index row a tile fetches: its first output row's field. -/
theorem off1_eq : ∀ i : grid0.Coords, k0_off1 i = ![p0 i / 64, 0] := by decide +kernel

/-- The second index row a tile fetches: the next field, the last one standing in when there is no next. -/
theorem off2_eq : ∀ i : grid0.Coords, k0_off2 i = ![min (p0 i / 64 + 1) 22, 0] := by decide +kernel

/-- The table row a trip fetches: the output row's field, and its column within the field. -/
theorem off3_eq : ∀ (i : grid0.Coords) (t : Fin k0_t1_loop.trips),
    k0_off3 i t = ![(p0 i + t.val) / 64, (p0 i + t.val) % 64, 0] := by decide +kernel

theorem off6_eq (i : grid0.Coords) (t : Fin k0_t1_loop.trips) : k0_off6 i t = ![p0 i + t.val, 0] := k0_off6_eq i t

/-- The row of the index scratch a trip reads: the output row's field less the first one's. -/
theorem pay2_eq : ∀ (i : grid0.Coords) (t : Fin k0_t1_loop.trips) (x : S16.Idx),
    (k0_pay2 (w2 i) (w19 i) k0_pay1 0#32 1#32 t x).toNat = (p0 i + t.val) / 64 - p0 i / 64 := by
  have h : ∀ (i : grid0.Coords) (t : Fin k0_t1_loop.trips),
      (k0_pay2 (w2 i) (w19 i) k0_pay1 0#32 1#32 t (ValueIdx.ix1 0 : S16.Idx)).toNat = (p0 i + t.val) / 64 - p0 i / 64 := by decide +kernel
  exact fun i t x => h i t

/-- The lane numbers. -/
abbrev lanes : IVec S16 32 := iota .scVector S16 32 [0] iota_S16_d0_w32_scVector

/-- The first sixteen columns of a trip of the inner loop. -/
theorem pay3_eq : ∀ (t : Fin k0_t2_loop.trips) (x : S16.Idx), (k0_pay3 lanes t x).toNat = 32 * t.val + (x 0).val := by decide +kernel

/-- The other sixteen columns of a trip of the inner loop. -/
theorem pay4_eq : ∀ (t : Fin k0_t2_loop.trips) (x : S16.Idx), (k0_pay4 lanes t x).toNat = 32 * t.val + 16 + (x 0).val := by decide +kernel

/-- An output row's field is the tile's first field or the one after it. -/
theorem field_cases (L : grid0.Coords) {t : ℕ} (ht : t < 46) :
    ((p0 L + t) / 64 - p0 L / 64 = 0 ∧ (p0 L + t) / 64 = p0 L / 64)
      ∨ ((p0 L + t) / 64 - p0 L / 64 = 1 ∧ (p0 L + t) / 64 = min (p0 L / 64 + 1) 22) := by
  have := p0_le L
  omega

end Cert.Proof.KI
-- ==== Proof.KI.Value.lean ====
/-
  What the kernel computes, and how each of its transfers and accesses reads or writes it, element by element.
-/
module

public import proofs.«01_k».proof.Proof.KI.Words
public import Idealize.ShloMosaic.Lib.Pointwise.Reshape

@[expose] public section

noncomputable section

namespace Cert.Proof.KI

open Cert.KernelIdeal Cert.KernelIdeal.Gen
open Idealize.ShloMosaic hiding ix1 ix2 ix3
open Idealize.ShloMosaic.ValueIdx

variable {F : FTy → Type} [FloatOps F]

local notation "iV" => (Memref.whole Cert.KernelIdeal.main_v0_scv : Memref Cert.KernelIdeal.sig Kind.scVector Space.hbm Cert.KernelIdeal.S23x4096 EltTy.i32)
local notation "xV" => (Memref.whole Cert.KernelIdeal.main_v1_scv : Memref Cert.KernelIdeal.sig Kind.scVector Space.hbm Cert.KernelIdeal.S23x64x100000 EltTy.f32)
local notation "oV" => (Memref.whole Cert.KernelIdeal.main_v2_scv : Memref Cert.KernelIdeal.sig Kind.scVector Space.hbm Cert.KernelIdeal.S1472x4096 EltTy.f32)
local notation "sI" => (Memref.whole Cert.KernelIdeal.cc0_scratch0 : Memref Cert.KernelIdeal.sig Kind.scVector Space.vmem Cert.KernelIdeal.S2x4096 EltTy.i32)
local notation "sT" => (Memref.whole Cert.KernelIdeal.cc0_scratch1 : Memref Cert.KernelIdeal.sig Kind.scVector Space.vmem Cert.KernelIdeal.S100000 EltTy.f32)
local notation "sR" => (Memref.whole Cert.KernelIdeal.cc0_scratch2 : Memref Cert.KernelIdeal.sig Kind.scVector Space.vmem Cert.KernelIdeal.S4096 EltTy.f32)

/-! ## The function -/

/-- The field of output row `p`. -/
def fieldOf (p : ℕ) (hp : p < 1472) : Fin 23 := ⟨p / 64, by omega⟩
/-- The column of output row `p` within its field. -/
def colOf (p : ℕ) : Fin 64 := ⟨p % 64, by omega⟩
/-- A word as an index into the vocabulary. -/
def vocab (w : BitVec 32) : Fin 100000 := ⟨w.toNat % 100000, by omega⟩

/-- Output row `p` at batch element `b`: the table at the row's field and column, at the index that element has for the field. -/
def val (fi : S23x4096.Idx → Elt F .i32) (ft : S23x64x100000.Idx → Elt F .f32) (p : ℕ) (hp : p < 1472) (b : Fin 4096) : Elt F .f32 :=
  ft (ix3 (fieldOf p hp) (colOf p) (vocab (fi (ix2 (fieldOf p hp) b))))

/-- The whole output. -/
def G (fi : S23x4096.Idx → Elt F .i32) (ft : S23x64x100000.Idx → Elt F .f32) : S1472x4096.Idx → Elt F .f32 :=
  fun j => val fi ft (j 0).val (idx2_lt0 j) (j 1)

/-- Every index is a row of the vocabulary. -/
def InRange (fi : S23x4096.Idx → Elt F .i32) : Prop := ∀ j, (fi j : BitVec 32).toNat < 100000

/-! ## The index scratch -/

/-- The field whose indices are in row `a` of the index scratch. -/
def rowIx (L : grid0.Coords) (a : Fin 2) : Fin 23 :=
  ⟨if a.val = 0 then p0 L / 64 else min (p0 L / 64 + 1) 22, by have := p0_le L; split <;> omega⟩

/-- The index scratch holds the tile's two rows of indices. -/
def IdxHolds (L : grid0.Coords) (fi : S23x4096.Idx → Elt F .i32) (s : S2x4096.Idx → Elt F .i32) : Prop :=
  ∀ (a : Fin 2) (b : Fin 4096), s (ix2 a b) = fi (ix2 (rowIx L a) b)

abbrev iSrc0 (L : grid0.Coords) : Memref sig .scVector .hbm S1x4096 .i32 :=
  (iV).slice (Rect.unit (s := S23x4096) (k0_off1 L) S1x4096.size (k0_off1_inb L)) (fun _ => rfl)
abbrev iSrc1 (L : grid0.Coords) : Memref sig .scVector .hbm S1x4096 .i32 :=
  (iV).slice (Rect.unit (s := S23x4096) (k0_off2 L) S1x4096.size (k0_off2_inb L)) (fun _ => rfl)
abbrev iDst0 : Memref sig .scVector .vmem S1x4096 .i32 :=
  (sI).slice (Rect.unit (s := S2x4096) ![0, 0] S1x4096.size inb_S2x4096_S1x4096_0_0) (fun _ => rfl)
abbrev iDst1 : Memref sig .scVector .vmem S1x4096 .i32 :=
  (sI).slice (Rect.unit (s := S2x4096) ![1, 0] S1x4096.size inb_S2x4096_S1x4096_1_0) (fun _ => rfl)

theorem emb_iSrc0 (L : grid0.Coords) (b : Fin 4096) : (iSrc0 L).view.emb (ix2 0 b) = ix2 (rowIx L 0) b := by
  funext a
  apply Fin.ext
  show (k0_off1 L) a + 1 * ((ix2 (0 : Fin 1) b : S1x4096.Idx) a).val = _
  rw [off1_eq]
  match a with
  | ⟨0, _⟩ => simp [rowIx]
  | ⟨1, _⟩ => simp

theorem emb_iSrc1 (L : grid0.Coords) (b : Fin 4096) : (iSrc1 L).view.emb (ix2 0 b) = ix2 (rowIx L 1) b := by
  funext a
  apply Fin.ext
  show (k0_off2 L) a + 1 * ((ix2 (0 : Fin 1) b : S1x4096.Idx) a).val = _
  rw [off2_eq]
  match a with
  | ⟨0, _⟩ => simp [rowIx]
  | ⟨1, _⟩ => simp

theorem emb_iDst0 (b : Fin 4096) : iDst0.view.emb (ix2 0 b) = (ix2 (0 : Fin 2) b : S2x4096.Idx) := by
  funext a
  apply Fin.ext
  show (![0, 0] : Fin 2 → ℕ) a + 1 * ((ix2 (0 : Fin 1) b : S1x4096.Idx) a).val = _
  match a with
  | ⟨0, _⟩ => simp
  | ⟨1, _⟩ => simp

theorem emb_iDst1 (b : Fin 4096) : iDst1.view.emb (ix2 0 b) = (ix2 (1 : Fin 2) b : S2x4096.Idx) := by
  funext a
  apply Fin.ext
  show (![1, 0] : Fin 2 → ℕ) a + 1 * ((ix2 (0 : Fin 1) b : S1x4096.Idx) a).val = _
  match a with
  | ⟨0, _⟩ => simp
  | ⟨1, _⟩ => simp

/-- The first fetch leaves row 1 of the scratch alone, and the second leaves row 0. -/
theorem not_mem_iDst1 (b : Fin 4096) : (ix2 (0 : Fin 2) b : S2x4096.Idx) ∉ iDst1.view.setOn Finset.univ := by
  intro h
  obtain ⟨x, -, hx⟩ := Finset.mem_map.1 h
  have h0 := congrArg (fun j : S2x4096.Idx => (j 0).val) hx
  have : 1 + 1 * (x 0).val = 0 := h0
  omega

/-- The two fetches leave the tile's two rows of indices in the scratch. -/
theorem idx_holds (L : grid0.Coords) (fi : S23x4096.Idx → Elt F .i32) (fs : S2x4096.Idx → Elt F .i32) :
    IdxHolds L fi (View.write (Elt F) iDst1.view (View.write (Elt F) iDst0.view fs ((iSrc0 L).view.read (Elt F) fi) Finset.univ)
      ((iSrc1 L).view.read (Elt F) fi) Finset.univ) := by
  intro a b
  match a with
  | ⟨0, _⟩ =>
    refine (View.write_of_not_mem _ _ _ (not_mem_iDst1 b)).trans ?_
    show View.write (Elt F) iDst0.view fs _ Finset.univ (ix2 (0 : Fin 2) b) = fi (ix2 (rowIx L 0) b)
    rw [← emb_iDst0 b, View.write_emb_of_mem _ _ (Finset.mem_univ _), ← emb_iSrc0]
    rfl
  | ⟨1, _⟩ =>
    show View.write (Elt F) iDst1.view _ _ Finset.univ (ix2 (1 : Fin 2) b) = fi (ix2 (rowIx L 1) b)
    rw [← emb_iDst1 b, View.write_emb_of_mem _ _ (Finset.mem_univ _), ← emb_iSrc1]
    rfl

/-! ## The table row -/

abbrev tSrc (L : grid0.Coords) (t : Fin k0_t1_loop.trips) : Memref sig .scVector .hbm S100000 .f32 :=
  ((xV).slice (Rect.unit (s := S23x64x100000) (k0_off3 L t) S1x1x100000.size (k0_off3_inb L t)) (fun _ => rfl)).squeeze S100000 squeezes_S1x1x100000_S100000

theorem row_lt (L : grid0.Coords) (t : Fin k0_t1_loop.trips) : p0 L + t.val < 1472 := by
  have := p0_le L
  have h : t.val < 46 := lt_of_lt_of_eq t.isLt trips1
  omega

theorem sq_t (y : Fin 100000) (h : S100000.numel = S1x1x100000.numel) :
    Shape.reshapeEquiv h (ix1 y : S100000.Idx) = (ix3 (0 : Fin 1) (0 : Fin 1) y : S1x1x100000.Idx) := by
  refine Shape.reshapeEquiv_eq_of_vals h _ _ y.val y.val ?_ ?_ rfl
  · rw [rowMajor_val3 _ 100000 100000 (by rfl) (by rfl)]; simp
  · rw [rowMajor_val1]

theorem emb_tSrc (L : grid0.Coords) (t : Fin k0_t1_loop.trips) (y : Fin 100000) :
    (tSrc L t).view.emb (ix1 y) = ix3 (fieldOf _ (row_lt L t)) (colOf (p0 L + t.val)) y := by
  show (Rect.unit (s := S23x64x100000) (k0_off3 L t) S1x1x100000.size (k0_off3_inb L t)).emb (Shape.reshapeEquiv _ (ix1 y : S100000.Idx)) = _
  rw [sq_t]
  funext a
  apply Fin.ext
  show (k0_off3 L t) a + 1 * ((ix3 (0 : Fin 1) (0 : Fin 1) y : S1x1x100000.Idx) a).val = _
  rw [off3_eq]
  match a with
  | ⟨0, _⟩ => simp [fieldOf]
  | ⟨1, _⟩ => simp [colOf]
  | ⟨2, _⟩ => simp

/-- The table scratch holds the row of the table for output row `p`. -/
def TabHolds (ft : S23x64x100000.Idx → Elt F .f32) (p : ℕ) (hp : p < 1472) (s : S100000.Idx → Elt F .f32) : Prop :=
  ∀ y : Fin 100000, s (ix1 y) = ft (ix3 (fieldOf p hp) (colOf p) y)

theorem tab_holds (L : grid0.Coords) (t : Fin k0_t1_loop.trips) (ft : S23x64x100000.Idx → Elt F .f32) (fr : S100000.Idx → Elt F .f32) :
    TabHolds ft _ (row_lt L t) (View.write (Elt F) (sT).view fr ((tSrc L t).view.read (Elt F) ft) Finset.univ) := by
  intro y
  rw [← emb_tSrc]
  exact congrFun (View.write_whole_univ (Val := Elt F) cc0_scratch1 fr _) (ix1 y)

/-! ## Sixteen output elements -/

/-- The indexed load of the index scratch yields the field's indices of sixteen batch elements. -/
theorem loadIdx_idx (L : grid0.Coords) (t : Fin k0_t1_loop.trips) (fi : S23x4096.Idx → Elt F .i32) (s : S2x4096.Idx → Elt F .i32)
    (hs : IdxHolds L fi s) (w : IVec S16 32) (n : ℕ) (hn : n + 16 ≤ 4096) (hw : ∀ x, (w x).toNat = n + (x 0).val)
    (h : ∀ a x, ((![k0_pay2 (w2 L) (w19 L) k0_pay1 0#32 1#32 t, w] : Fin 2 → IVec S16 32) a x).toNat < S2x4096.size a) (x : S16.Idx) :
    loadIdx (s : Vec F S2x4096 .i32) ![k0_pay2 (w2 L) (w19 L) k0_pay1 0#32 1#32 t, w] h x
      = fi (ix2 (fieldOf _ (row_lt L t)) ⟨n + (x 0).val, by have : (x 0).val < 16 := (x 0).isLt; omega⟩) := by
  have hx : (x 0).val < 16 := (x 0).isLt
  have ht : t.val < 46 := lt_of_lt_of_eq t.isLt trips1
  have hd : (p0 L + t.val) / 64 - p0 L / 64 < 2 := by rcases field_cases L ht with h | h <;> omega
  have e : idxAt ![k0_pay2 (w2 L) (w19 L) k0_pay1 0#32 1#32 t, w] h x
      = (ix2 (⟨(p0 L + t.val) / 64 - p0 L / 64, hd⟩ : Fin 2) (⟨n + (x 0).val, by omega⟩ : Fin 4096) : S2x4096.Idx) := by
    funext a
    apply Fin.ext
    match a with
    | ⟨0, _⟩ => exact pay2_eq L t x
    | ⟨1, _⟩ => exact hw x
  show s (idxAt _ h x) = _
  rw [e, hs]
  congr 1
  have : rowIx L ⟨(p0 L + t.val) / 64 - p0 L / 64, hd⟩ = fieldOf _ (row_lt L t) := by
    apply Fin.ext
    show (if (p0 L + t.val) / 64 - p0 L / 64 = 0 then p0 L / 64 else min (p0 L / 64 + 1) 22) = (p0 L + t.val) / 64
    rcases field_cases L ht with ⟨h, h'⟩ | ⟨h, h'⟩
    · rw [if_pos h, h']
    · rw [if_neg (by omega), h']
  rw [this]

/-- The row part of a batch index list and the column part are in the index scratch's extents. -/
theorem chk_idx (L : grid0.Coords) (t : Fin k0_t1_loop.trips) (w : IVec S16 32) (n : ℕ) (hn : n + 16 ≤ 4096) (hw : ∀ x, (w x).toNat = n + (x 0).val) :
    ∀ a x, ((![k0_pay2 (w2 L) (w19 L) k0_pay1 0#32 1#32 t, w] : Fin 2 → IVec S16 32) a x).toNat < S2x4096.size a := by
  intro a x
  have hx : (x 0).val < 16 := (x 0).isLt
  have ht : t.val < 46 := lt_of_lt_of_eq t.isLt trips1
  match a with
  | ⟨0, _⟩ =>
    show (k0_pay2 (w2 L) (w19 L) k0_pay1 0#32 1#32 t x).toNat < 2
    rw [pay2_eq]
    rcases field_cases L ht with h | h <;> omega
  | ⟨1, _⟩ =>
    show (w x).toNat < 4096
    rw [hw]; omega

/-- The indexed load of the table scratch at those indices yields the output row's sixteen elements. -/
theorem loadIdx_tab (p : ℕ) (hp : p < 1472) (fi : S23x4096.Idx → Elt F .i32) (ft : S23x64x100000.Idx → Elt F .f32) (hfi : InRange (F := F) fi)
    (s : S100000.Idx → Elt F .f32) (hs : TabHolds ft p hp s) (v : IVec S16 32) (b : S16.Idx → Fin 4096) (hv : ∀ x, v x = fi (ix2 (fieldOf p hp) (b x)))
    (h : ∀ a x, ((![v] : Fin 1 → IVec S16 32) a x).toNat < S100000.size a) (x : S16.Idx) :
    loadIdx (s : Vec F S100000 .f32) ![v] h x = val fi ft p hp (b x) := by
  have e : idxAt ![v] h x = (ix1 (vocab (v x)) : S100000.Idx) := by
    funext a
    apply Fin.ext
    match a with
    | ⟨0, _⟩ =>
      show (v x).toNat = (v x).toNat % 100000
      rw [Nat.mod_eq_of_lt]
      rw [hv x]; exact hfi _
  show s (idxAt _ h x) = _
  rw [e, hs, hv]
  rfl

/-- Indices in range pass the table load's check. -/
theorem chk_tab (p : ℕ) (hp : p < 1472) (fi : S23x4096.Idx → Elt F .i32) (hfi : InRange (F := F) fi) (v : IVec S16 32) (b : S16.Idx → Fin 4096)
    (hv : ∀ x, v x = fi (ix2 (fieldOf p hp) (b x))) : ∀ a x, ((![v] : Fin 1 → IVec S16 32) a x).toNat < S100000.size a := by
  intro a x
  match a with
  | ⟨0, _⟩ =>
    show (v x).toNat < 100000
    rw [hv x]; exact hfi _

/-- The row scratch with its first `n` elements computed. -/
def part (row r0 : S4096.Idx → Elt F .f32) (n : ℕ) : S4096.Idx → Elt F .f32 := fun y => if (y 0).val < n then row y else r0 y

/-- Output row `p`, as the row scratch holds it. -/
def rowVal (fi : S23x4096.Idx → Elt F .i32) (ft : S23x64x100000.Idx → Elt F .f32) (p : ℕ) (hp : p < 1472) : S4096.Idx → Elt F .f32 :=
  fun y => val fi ft p hp (y 0)

/-- A store of the next sixteen elements computes sixteen more. -/
theorem store_part (row r0 : S4096.Idx → Elt F .f32) (n : ℕ) (off : Fin 1 → ℕ) (inb : ∀ a, off a + S16.size a ≤ S4096.size a) (hoff : off = ![n])
    (hn : n + 16 ≤ 4096) (v : S16.Idx → Elt F .f32) (hv : ∀ x : S16.Idx, v x = row (ix1 ⟨n + (x 0).val, by have : (x 0).val < 16 := (x 0).isLt; omega⟩)) :
    View.write (Elt F) ((sR).access (Rect.unit (s := S4096) off S16.size inb)) (part row r0 n) v Finset.univ = part row r0 (n + 16) := by
  subst hoff
  funext y
  have hemb : ∀ x : S16.Idx, ((sR).access (Rect.unit (s := S4096) ![n] S16.size inb)).emb x
      = (ix1 ⟨n + (x 0).val, by have : (x 0).val < 16 := (x 0).isLt; omega⟩ : S4096.Idx) := by
    intro x
    funext a
    apply Fin.ext
    match a with
    | ⟨0, _⟩ => show n + 1 * (x 0).val = n + (x 0).val; omega
  by_cases hy : n ≤ (y 0).val ∧ (y 0).val < n + 16
  · have ey : y = ((sR).access (Rect.unit (s := S4096) ![n] S16.size inb)).emb (ix1 (⟨(y 0).val - n, by omega⟩ : Fin 16) : S16.Idx) := by
      rw [hemb]
      funext a
      apply Fin.ext
      match a with
      | ⟨0, _⟩ => show (y 0).val = n + ((y 0).val - n); omega
    have hlt : (y 0).val < n + 16 := hy.2
    conv_lhs => rw [ey]
    rw [View.write_emb_of_mem _ _ (Finset.mem_univ _)]
    refine (cast_eq _ _).trans ?_
    rw [hv]
    unfold part
    rw [if_pos hlt]
    congr 1
    rw [← hemb]
    exact ey.symm
  · have hnot : y ∉ ((sR).access (Rect.unit (s := S4096) ![n] S16.size inb)).setOn Finset.univ := by
      intro h
      obtain ⟨x, -, hx⟩ := Finset.mem_map.1 h
      rw [hemb] at hx
      have hx16 : (x 0).val < 16 := (x 0).isLt
      have h0 : n + (x 0).val = (y 0).val := congrArg (fun j : S4096.Idx => (j 0).val) hx
      omega
    refine (View.write_of_not_mem _ _ _ hnot).trans ?_
    unfold part
    by_cases h1 : (y 0).val < n
    · rw [if_pos h1, if_pos (by omega)]
    · rw [if_neg h1, if_neg (by omega)]

theorem part_zero (row r0 : S4096.Idx → Elt F .f32) : part row r0 0 = r0 := by
  funext y; unfold part; rw [if_neg (by omega)]

theorem part_all (row r0 : S4096.Idx → Elt F .f32) (n : ℕ) (hn : 4096 ≤ n) : part row r0 n = row := by
  funext y; unfold part
  have : (y 0).val < 4096 := (y 0).isLt
  rw [if_pos (by omega)]

/-! ## The output rows -/

abbrev oDst (L : grid0.Coords) (t : Fin k0_t1_loop.trips) : Memref sig .scVector .hbm S4096 .f32 :=
  ((oV).slice (Rect.unit (s := S1472x4096) (k0_off6 L t) S1x4096.size (k0_off6_inb L t)) (fun _ => rfl)).squeeze S4096 squeezes_S1x4096_S4096

/-- The rows tile `L` writes. -/
def oSet (L : grid0.Coords) : Finset S1472x4096.Idx := Finset.univ.filter fun j => p0 L ≤ (j 0).val ∧ (j 0).val < p0 L + 46

theorem mem_oSet {L : grid0.Coords} {j : S1472x4096.Idx} : j ∈ oSet L ↔ p0 L ≤ (j 0).val ∧ (j 0).val < p0 L + 46 := by
  simp [oSet]

theorem sq_o (x : S4096.Idx) (h : S4096.numel = S1x4096.numel) :
    Shape.reshapeEquiv h x = (ix2 (0 : Fin 1) (x 0 : Fin 4096) : S1x4096.Idx) := by
  refine Shape.reshapeEquiv_eq_of_vals h _ _ (x 0).val (x 0).val ?_ ?_ rfl
  · exact (rowMajor_val2 _ 4096 rfl).trans (by show 0 * 4096 + (x 0).val = _; omega)
  · exact rowMajor_val1 _

theorem emb_oDst (L : grid0.Coords) (t : Fin k0_t1_loop.trips) (x : S4096.Idx) :
    (oDst L t).view.emb x = (ix2 (⟨p0 L + t.val, row_lt L t⟩ : Fin 1472) (x 0 : Fin 4096) : S1472x4096.Idx) := by
  show (Rect.unit (s := S1472x4096) (k0_off6 L t) S1x4096.size (k0_off6_inb L t)).emb (Shape.reshapeEquiv _ x) = _
  rw [sq_o]
  funext a
  apply Fin.ext
  show (k0_off6 L t) a + 1 * ((ix2 (0 : Fin 1) (x 0 : Fin 4096) : S1x4096.Idx) a).val = _
  rw [off6_eq]
  match a with
  | ⟨0, _⟩ => simp
  | ⟨1, _⟩ => simp

/-- The elements a trip's write-out covers are those of its output row. -/
theorem mem_oDst (L : grid0.Coords) (t : Fin k0_t1_loop.trips) (j : S1472x4096.Idx) : j ∈ (oDst L t).view.set ↔ (j 0).val = p0 L + t.val := by
  constructor
  · intro h
    obtain ⟨x, -, hx⟩ := Finset.mem_map.1 h
    rw [emb_oDst] at hx
    exact (congrArg (fun j : S1472x4096.Idx => (j 0).val) hx).symm
  · intro h
    have : j = (oDst L t).view.emb (ix1 (j 1) : S4096.Idx) := by
      refine Eq.trans ?_ (emb_oDst L t _).symm
      funext a
      apply Fin.ext
      match a with
      | ⟨0, _⟩ => exact h
      | ⟨1, _⟩ => rfl
    rw [this]
    exact View.emb_mem_set _ _

theorem oDst_sub (L : grid0.Coords) (t : Fin k0_t1_loop.trips) : (oDst L t).view.set ⊆ oSet L := by
  intro j hj
  have h := (mem_oDst L t j).1 hj
  have ht : t.val < 46 := lt_of_lt_of_eq t.isLt trips1
  exact mem_oSet.2 ⟨by omega, by omega⟩

/-- The output with the tile's first `n` rows computed. -/
def mix (L : grid0.Coords) (fi : S23x4096.Idx → Elt F .i32) (ft : S23x64x100000.Idx → Elt F .f32) (f0 : S1472x4096.Idx → Elt F .f32) (n : ℕ) :
    S1472x4096.Idx → Elt F .f32 := fun j => if (j 0).val < p0 L + n then G fi ft j else f0 j

/-- A view written through its whole rectangle reads what was written. -/
theorem read_whole_write {κ : Kind} {sp : Space} {s : Shape} {e : EltTy} {Val : EltTy → Type} (v : View sig κ sp s e) (f : v.ty.Contents Val)
    (w : s.Idx → Val e) (x : s.Idx) : v.read Val (v.writes Val f [⟨Rect.whole s, w⟩]) x = w x :=
  (congrArg _ (Rect.emb_whole_apply s x).symm).trans (View.read_writes_cons_emb (v := v) (f := f) (Rect.whole s) w [] x)

/-- On the row a trip writes out, the output then holds the row computed. -/
theorem mix_written (L : grid0.Coords) (t : Fin k0_t1_loop.trips) (fi : S23x4096.Idx → Elt F .i32) (ft : S23x64x100000.Idx → Elt F .f32)
    (f0 g : S1472x4096.Idx → Elt F .f32) (pay : S4096.Idx → Elt F .f32) (hpay : pay = rowVal fi ft _ (row_lt L t)) :
    ∀ j ∈ (oDst L t).view.set, (oDst L t).view.writes (Elt F) g [⟨Rect.whole S4096, pay⟩] j = mix L fi ft f0 (t.val + 1) j := by
  intro j hj
  obtain ⟨x, -, hx⟩ := Finset.mem_map.1 hj
  have hr : (oDst L t).view.writes (Elt F) g [⟨Rect.whole S4096, pay⟩] ((oDst L t).view.emb x) = pay x :=
    ((View.read_apply _ _).trans (cast_eq _ _)).symm.trans (read_whole_write (oDst L t).view g pay x)
  subst hx
  refine hr.trans ?_
  subst hpay
  rw [emb_oDst]
  unfold mix
  rw [if_pos (by show p0 L + t.val < _; omega)]
  rfl

/-- Off that row the output is as it was. -/
theorem mix_kept (L : grid0.Coords) (t : Fin k0_t1_loop.trips) (fi : S23x4096.Idx → Elt F .i32) (ft : S23x64x100000.Idx → Elt F .f32)
    (f0 : S1472x4096.Idx → Elt F .f32) : ∀ j ∈ oSet L \ (oDst L t).view.set, mix L fi ft f0 t.val j = mix L fi ft f0 (t.val + 1) j := by
  intro j hj
  obtain ⟨-, hn⟩ := Finset.mem_sdiff.1 hj
  rw [mem_oDst] at hn
  unfold mix
  by_cases h1 : (j 0).val < p0 L + t.val
  · rw [if_pos h1, if_pos (by omega)]
  · rw [if_neg h1, if_neg (by omega)]

theorem mix_zero (L : grid0.Coords) (fi : S23x4096.Idx → Elt F .i32) (ft : S23x64x100000.Idx → Elt F .f32) (f0 : S1472x4096.Idx → Elt F .f32) :
    ∀ j ∈ oSet L, f0 j = mix L fi ft f0 0 j := by
  intro j hj
  have := (mem_oSet.1 hj).1
  unfold mix; rw [if_neg (by omega)]

theorem mix_all (L : grid0.Coords) (fi : S23x4096.Idx → Elt F .i32) (ft : S23x64x100000.Idx → Elt F .f32) (f0 : S1472x4096.Idx → Elt F .f32) :
    ∀ j ∈ oSet L, mix L fi ft f0 46 j = G fi ft j := by
  intro j hj
  have := (mem_oSet.1 hj).2
  unfold mix; rw [if_pos this]

end Cert.Proof.KI
-- ==== Proof.KI.Setup.lean ====
/-
  The launch as the proofs about it see it: the program's labels and definitions, the resource algebra, the buffers the
  tiles read and write, and a tile's own semaphores and scratch buffers.
-/
module

public import proofs.«01_k».proof.Proof.KI.Value
public import Idealize.ShloMosaic.Lib.SparseCore.Quiescent
public import Idealize.ShloMosaic.Lib.SparseCore.Ops
public import Idealize.ShloMosaic.Lib.StableHlo.Run

@[expose] public section

noncomputable section

namespace Cert.Proof.KI

open Cert.KernelIdeal Cert.KernelIdeal.Gen
open Idealize.ShloMosaic hiding ix1 ix2 ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The indices by field, the table by field and column, and the output by row, as locations of device `d`. -/
abbrev iLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v2

variable (d : Dev nD) (L : grid0.Coords)

/-- The tile at the coordinates `L`: its SparseCore and its vector subcore. -/
abbrev cV : Fin τ.nSC := (L 0).castLE hcore0
abbrev jV : Fin τ.nSub := (L 1).castLE hsub0

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

/-- A tile's own semaphores at zero are the four its copies signal, at zero, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  have own : ∀ s : DmaSem sig, (SemLoc.dma s : SemLoc sig).isScoped .scVector = true →
      (((V d (cV L) (jV L), .dma s) : GSem nD τ sig) ∈ ownCells (V d (cV L) (jV L))) := fun s hs => mem_ownCells.mpr ⟨rfl, hs⟩
  have ne : ∀ s s' : DmaSem sig, s ≠ s' → ((V d (cV L) (jV L), .dma s) : GSem nD τ sig) ≠ (V d (cV L) (jV L), .dma s') := fun s s' h e => by
    have := congrArg Prod.snd e
    exact h (SemLoc.dma.inj this)
  unfold SparseCore.Cfg.ownSems0
  rw [SparseCore.bigSep_erase' (own cc0_scoped0.sem (by decide)),
    SparseCore.bigSep_erase' (Finset.mem_erase.mpr ⟨ne cc0_scoped1.sem cc0_scoped0.sem (by decide), own _ (by decide)⟩),
    SparseCore.bigSep_erase' (Finset.mem_erase.mpr ⟨ne cc0_scoped2.sem cc0_scoped1.sem (by decide),
      Finset.mem_erase.mpr ⟨ne cc0_scoped2.sem cc0_scoped0.sem (by decide), own _ (by decide)⟩⟩),
    SparseCore.bigSep_erase' (Finset.mem_erase.mpr ⟨ne cc0_scoped3.sem cc0_scoped2.sem (by decide),
      Finset.mem_erase.mpr ⟨ne cc0_scoped3.sem cc0_scoped1.sem (by decide),
        Finset.mem_erase.mpr ⟨ne cc0_scoped3.sem cc0_scoped0.sem (by decide), own _ (by decide)⟩⟩⟩)]

/-- A tile's own buffers are its three scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have ne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨ne cc0_scratch1 cc0_scratch0 (by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨ne cc0_scratch2 cc0_scratch1 (by decide), Finset.mem_erase.mpr ⟨ne cc0_scratch2 cc0_scratch0 (by decide),
      SparseCore.Cfg.mem_ownRefs_of_owner (p := Proc.scVector (cV L) (jV L)) (b := (Proc.scVector (cV L) (jV L)).devRef cc0_scratch2) rfl⟩⟩)]

end Cert.Proof.KI
-- ==== Proof.KI.Body.lean ====
/-
  A tile's task: the two rows of indices fetched, and for each of its 46 output rows the table row fetched, the row
  computed sixteen elements at a time, and the row written out. Each step is stated with the value it leaves.
-/
module

public import proofs.«01_k».proof.Proof.KI.Setup

@[expose] public section

noncomputable section

namespace Cert.Proof.KI

open Cert.KernelIdeal Cert.KernelIdeal.Gen
open Idealize.ShloMosaic hiding ix1 ix2 ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S23x4096 EltTy.i32)
local notation "xV" => (Memref.whole Cert.KernelIdeal.main_v1_scv : Memref Cert.KernelIdeal.sig Kind.scVector Space.hbm Cert.KernelIdeal.S23x64x100000 EltTy.f32)
local notation "oV" => (Memref.whole Cert.KernelIdeal.main_v2_scv : Memref Cert.KernelIdeal.sig Kind.scVector Space.hbm Cert.KernelIdeal.S1472x4096 EltTy.f32)
local notation "sI" => (Memref.whole Cert.KernelIdeal.cc0_scratch0 : Memref Cert.KernelIdeal.sig Kind.scVector Space.vmem Cert.KernelIdeal.S2x4096 EltTy.i32)
local notation "sT" => (Memref.whole Cert.KernelIdeal.cc0_scratch1 : Memref Cert.KernelIdeal.sig Kind.scVector Space.vmem Cert.KernelIdeal.S100000 EltTy.f32)
local notation "sR" => (Memref.whole Cert.KernelIdeal.cc0_scratch2 : Memref Cert.KernelIdeal.sig Kind.scVector Space.vmem Cert.KernelIdeal.S4096 EltTy.f32)

variable (d : Dev nD) (L : grid0.Coords)

/-! ## The buffers as the accesses name them -/

abbrev thr (d : Dev nD) (L : grid0.Coords) : Thread nD τ := V d (cV L) (jV L)

theorem pts_sI_access (f : Buf (Elt F) ((thr d L).loc cc0_scratch0)) :
    (((sI).access (.whole S2x4096)).loc (thr d L) ↦{fullShare} f : sProp 𝕄) = (sI).view.loc (thr d L) ↦{fullShare} f := rfl
theorem pts_sT_access (f : Buf (Elt F) ((thr d L).loc cc0_scratch1)) :
    (((sT).access (.whole S100000)).loc (thr d L) ↦{fullShare} f : sProp 𝕄) = (sT).view.loc (thr d L) ↦{fullShare} f := rfl
theorem pts_sR_access (r : Rect S4096) (f : Buf (Elt F) ((thr d L).loc cc0_scratch2)) :
    (((sR).access r).loc (thr d L) ↦{fullShare} f : sProp 𝕄) = (sR).view.loc (thr d L) ↦{fullShare} f := rfl

/-- What an indexed load of a whole scratch reads from is the scratch's contents. -/
theorem read_sI (f : S2x4096.Idx → Elt F .i32) : ((sI).access (.whole (cc0_scratch0 : Ref sig .scVector).ty.shape)).read (Elt F) f = f := by
  funext x
  refine (View.read_apply _ _).trans ((cast_eq _ _).trans (congrArg f ?_))
  exact Rect.emb_whole_apply _ x
theorem read_sT (f : S100000.Idx → Elt F .f32) : ((sT).access (.whole (cc0_scratch1 : Ref sig .scVector).ty.shape)).read (Elt F) f = f := by
  funext x
  refine (View.read_apply _ _).trans ((cast_eq _ _).trans (congrArg f ?_))
  exact Rect.emb_whole_apply _ x

/-! ## One trip of the inner loop -/

/-- The three scratch buffers during the inner loop: the indices, the table row, and the first `n` elements of the output row. -/
def scr (si : S2x4096.Idx → Elt F .i32) (st : S100000.Idx → Elt F .f32) (sr : S4096.Idx → Elt F .f32) : sProp 𝕄 :=
  iprop(((sI).view.loc (thr d L) ↦{fullShare} si) ∗ ((sT).view.loc (thr d L) ↦{fullShare} st) ∗ ((sR).view.loc (thr d L) ↦{fullShare} sr))

set_option maxHeartbeats 4000000 in
/-- A trip computes the next 32 elements of the output row. -/
theorem inner_trip (t : Fin k0_t1_loop.trips) (fi : S23x4096.Idx → Elt F .i32) (ft : S23x64x100000.Idx → Elt F .f32) (hfi : InRange (F := F) fi)
    (si : S2x4096.Idx → Elt F .i32) (hsi : IdxHolds L fi si) (st : S100000.Idx → Elt F .f32) (hst : TabHolds ft _ (row_lt L t) st)
    (r0 : S4096.Idx → Elt F .f32) (k : Fin k0_t2_loop.trips) :
    scr d L si st (part (rowVal fi ft _ (row_lt L t)) r0 (32 * k.val))
      ⊢ wp frame (wpE (defs₀ (F := F)) 𝒱₀ (thr d L) none) Set.univ
          (k0_t2_body L iV (Memref.isWhole_whole _) xV (Memref.isWhole_whole _) oV (Memref.isWhole_whole _) sI (Memref.isWhole_whole _)
            sT (Memref.isWhole_whole _) sR (Memref.isWhole_whole _) cc0_scoped0 cc0_scoped1 cc0_scoped2 cc0_scoped3 (w2 L) (w19 L) lanes k0_pay1 0#32 1#32 t
            (k0_pay2 (w2 L) (w19 L) k0_pay1 0#32 1#32 t) k ())
          fun _ => scr d L si st (part (rowVal fi ft _ (row_lt L t)) r0 (32 * (k.val + 1))) := by
  have hk : k.val < 128 := lt_of_lt_of_eq k.isLt trips2
  unfold k0_t2_body scr
  simp only [Prog.lift, Prog.bind_op, Prog.bind_ret, Prog.pure_eq_ret]
  iintro ⟨HI, HT, HR⟩
  -- the first sixteen
  have h1 : k0_chk1 (k0_pay2 (w2 L) (w19 L) k0_pay1 0#32 1#32 t) (k0_pay3 lanes k) :=
    chk_idx L t (k0_pay3 lanes k) (32 * k.val) (by omega) (pay3_eq k)
  have e1 := loadIdx_idx L t fi si hsi (k0_pay3 lanes k) (32 * k.val) (by omega) (pay3_eq k) h1
  have g1 : k0_chk2 (loadIdx (si : Vec F S2x4096 .i32) ![k0_pay2 (w2 L) (w19 L) k0_pay1 0#32 1#32 t, k0_pay3 lanes k] h1) :=
    chk_tab _ (row_lt L t) fi hfi _ _ e1
  have u1 := loadIdx_tab _ (row_lt L t) fi ft hfi st hst _ _ e1 g1
  rw [wp_assume_of _ _ _ _ h1]
  ihave HI := (Entails.of_eq (pts_sI_access (F := F) d L _).symm) $$ HI
  iapply (SparseCore.wp_vectorLoadIdx 𝒱₀ (thr d L) none Set.univ (base := sI) (S := Finset.univ) (q := fullShare) (Finset.subset_univ _)) $$ HI; iintro HI
  rw [read_sI, wp_assume_of _ _ _ _ g1]
  ihave HT := (Entails.of_eq (pts_sT_access (F := F) d L _).symm) $$ HT
  iapply (SparseCore.wp_vectorLoadIdx 𝒱₀ (thr d L) none Set.univ (base := sT) (S := Finset.univ) (q := fullShare) (Finset.subset_univ _)) $$ HT; iintro HT
  rw [read_sT]
  iapply (wp_load 𝒱₀ (thr d L) none Set.univ (m := sR) (S := Finset.univ) (Finset.subset_univ _)) $$ HR; iintro HR
  ihave HR := (Entails.of_eq (pts_sR_access (F := F) d L (Rect.unit (s := S4096) (k0_off4 k) S16.size (k0_off4_inb k)) _).symm) $$ HR
  iapply (wp_store 𝒱₀ (thr d L) none Set.univ (m := sR) (r := Rect.unit (s := S4096) (k0_off4 k) S16.size (k0_off4_inb k)) (Mk := Finset.univ)
    (S := Finset.univ) (Finset.subset_univ _)) $$ HR; iintro HR
  rw [store_part _ _ (32 * k.val) _ _ (k0_off4_eq k) (by omega) _ u1]
  -- the other sixteen
  have h2 : k0_chk3 (k0_pay2 (w2 L) (w19 L) k0_pay1 0#32 1#32 t) (k0_pay4 lanes k) :=
    chk_idx L t (k0_pay4 lanes k) (32 * k.val + 16) (by omega) (pay4_eq k)
  have e2 := loadIdx_idx L t fi si hsi (k0_pay4 lanes k) (32 * k.val + 16) (by omega) (pay4_eq k) h2
  have g2 : k0_chk4 (loadIdx (si : Vec F S2x4096 .i32) ![k0_pay2 (w2 L) (w19 L) k0_pay1 0#32 1#32 t, k0_pay4 lanes k] h2) :=
    chk_tab _ (row_lt L t) fi hfi _ _ e2
  have u2 := loadIdx_tab _ (row_lt L t) fi ft hfi st hst _ _ e2 g2
  rw [wp_assume_of _ _ _ _ h2]
  ihave HI := (Entails.of_eq (pts_sI_access (F := F) d L _).symm) $$ HI
  iapply (SparseCore.wp_vectorLoadIdx 𝒱₀ (thr d L) none Set.univ (base := sI) (S := Finset.univ) (q := fullShare) (Finset.subset_univ _)) $$ HI; iintro HI
  rw [read_sI, wp_assume_of _ _ _ _ g2]
  ihave HT := (Entails.of_eq (pts_sT_access (F := F) d L _).symm) $$ HT
  iapply (SparseCore.wp_vectorLoadIdx 𝒱₀ (thr d L) none Set.univ (base := sT) (S := Finset.univ) (q := fullShare) (Finset.subset_univ _)) $$ HT; iintro HT
  rw [read_sT]
  iapply (wp_load 𝒱₀ (thr d L) none Set.univ (m := sR) (S := Finset.univ) (Finset.subset_univ _)) $$ HR; iintro HR
  ihave HR := (Entails.of_eq (pts_sR_access (F := F) d L (Rect.unit (s := S4096) (k0_off5 k) S16.size (k0_off5_inb k)) _).symm) $$ HR
  iapply (wp_store 𝒱₀ (thr d L) none Set.univ (m := sR) (r := Rect.unit (s := S4096) (k0_off5 k) S16.size (k0_off5_inb k)) (Mk := Finset.univ)
    (S := Finset.univ) (Finset.subset_univ _)) $$ HR; iintro HR
  rw [store_part _ _ (32 * k.val + 16) _ _ (k0_off5_eq k) (by omega) _ u2]
  rw [show 32 * k.val + 16 + 16 = 32 * (k.val + 1) by omega, wp_ret]
  imodintro
  isplitl [HI]; · iexact HI
  isplitl [HT]; · iexact HT
  iexact HR

/-! ## One trip of the outer loop -/

/-- The state before output row `n` of a tile: the table, the tile's output rows with the first `n` computed, the scratch with the
    tile's indices in it, the copies' semaphores at zero, and what the tile owes. -/
def outer (fi : S23x4096.Idx → Elt F .i32) (ft : S23x64x100000.Idx → Elt F .f32) (f0 : S1472x4096.Idx → Elt F .f32) (q : PosShare TreeShare)
    (si : S2x4096.Idx → Elt F .i32) (O : CellTallies nD τ sig (HIx 1)) (W : Waits sig (HIx 1)) (n : ℕ) (_ : Unit) : sProp 𝕄 :=
  iprop(Transfers.MayWaits (thr d L) (default : HIx 1) O
    ∗ ((xV).view.loc (thr d L) ↦{q} ft)
    ∗ ((oV).view.loc (thr d L) ↦[oSet L]{fullShare} mix L fi ft f0 n)
    ∗ (∃ st sr, scr d L si st sr)
    ∗ semVal (cell2 d (cV L) (jV L)) 0 ∗ semVal (cell3 d (cV L) (jV L)) 0
    ∗ ∃ W', ⌜∀ p ∈ W', p ∈ W ∨ p.2 = none⌝ ∗ owes (thr d L) O W')

set_option maxHeartbeats 4000000 in
/-- A trip computes one more output row. -/
theorem outer_trip (fi : S23x4096.Idx → Elt F .i32) (ft : S23x64x100000.Idx → Elt F .f32) (f0 : S1472x4096.Idx → Elt F .f32) (hfi : InRange (F := F) fi)
    (q : PosShare TreeShare) (si : S2x4096.Idx → Elt F .i32) (hsi : IdxHolds L fi si) (O : CellTallies nD τ sig (HIx 1)) (W : Waits sig (HIx 1))
    (t : Fin k0_t1_loop.trips) :
    outer d L fi ft f0 q si O W t.val ()
      ⊢ wp frame (wpE (defs₀ (F := F)) 𝒱₀ (thr d L) none) Set.univ
          (k0_t1_body L iV (Memref.isWhole_whole _) xV (Memref.isWhole_whole _) oV (Memref.isWhole_whole _) sI (Memref.isWhole_whole _)
            sT (Memref.isWhole_whole _) sR (Memref.isWhole_whole _) cc0_scoped0 cc0_scoped1 cc0_scoped2 cc0_scoped3 (w2 L) (w19 L) lanes t ())
          (outer d L fi ft f0 q si O W (t.val + 1)) := by
  unfold k0_t1_body
  simp only [k0_part1_eq_skeleton]
  unfold k0_part1_skel outer scr
  iintro ⟨Hmw, Hx, Ho, ⟨%st, %sr, HI, HT, HR⟩, Hs2, Hs3, %W', %hW', HO⟩
  sl_exec (disch := exact View.amount_pos _ _ (show 0 < S100000.numel by decide))
  have hst : TabHolds ft _ (row_lt L t) (View.write (Elt F) (sT).view st (outer_trip.sl.dma0 L ft t) Finset.univ) := tab_holds L t ft st
  generalize View.write (Elt F) (sT).view st (outer_trip.sl.dma0 L ft t) Finset.univ = st' at hst ⊢
  simp only [bind_assoc]
  sl_for (fun n _ => scr d L si st' (part (rowVal fi ft _ (row_lt L t)) sr (32 * n))) $$ [HI HT HR]
  case region => exact fun k _ => inner_trip d L t fi ft hfi si hsi st' hst sr k
  · unfold scr
    rw [show 32 * 0 = 0 from rfl, part_zero]
    isplitl [HI]; · iexact HI
    isplitl [HT]; · iexact HT
    iexact HR
  iintro %_ Hscr
  rw [show Scf.trips k0_t2_loop.lb k0_t2_loop.ub k0_t2_loop.st = 128 from trips2, part_all _ _ _ (by omega)]
  unfold scr
  icases Hscr with ⟨HI, HT, HR⟩
  -- the row written out: its elements of the output split off, and joined again
  ihave Hos := (pointsTo_split_subset (q := fullShare) (f := mix L fi ft f0 t.val) (oDst_sub L t)).1 $$ Ho
  icases Hos with ⟨Hrow, Hrest⟩
  ihave Hrow := (Entails.of_eq (show ((oV).view.loc (thr d L) ↦[(oDst L t).view.set]{fullShare} mix L fi ft f0 t.val : sProp 𝕄)
    = (oDst L t).view.loc (thr d L) ↦[(oDst L t).view.set]{fullShare} mix L fi ft f0 t.val from rfl)) $$ Hrow
  sl_exec (disch := exact View.amount_pos _ _ (show 0 < S4096.numel by decide))
  ihave Hrow := (Entails.of_eq (pointsTo_congr (mix_written L t fi ft f0 _ (outer_trip.sl.dma0_1 L fi ft t) rfl))) $$ Hrow
  ihave Hrest := (Entails.of_eq (pointsTo_congr (mix_kept L t fi ft f0))) $$ Hrest
  ihave Ho := (pointsTo_split_subset (ℓ := (oV).view.loc (thr d L)) (q := fullShare) (f := mix L fi ft f0 (t.val + 1)) (oDst_sub L t)).2 $$ [Hrow Hrest]
  · isplitl [Hrow]; · iexact Hrow
    iexact Hrest
  rw [wp_ret]; imodintro
  isplitl [Hmw]; · iexact Hmw
  isplitl [Hx]; · iexact Hx
  isplitl [Ho]; · iexact Ho
  isplitl [HI HT HR]
  · iexists _; iexists _
    isplitl [HI]; · iexact HI
    isplitl [HT]; · iexact HT
    iexact HR
  isplitl [Hs2]; · iexact Hs2
  isplitl [Hs3]; · iexact Hs3
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The task -/

/-- What a tile reads: a share of the indices and a share of the table. -/
def ins (fi : S23x4096.Idx → Elt F .i32) (ft : S23x64x100000.Idx → Elt F .f32) (q : PosShare TreeShare) : sProp 𝕄 :=
  iprop((iLoc d ↦{q} fi) ∗ (xLoc d ↦{q} ft))

/-- A tile's output rows, at given contents. -/
def outs (f : S1472x4096.Idx → Elt F .f32) : sProp 𝕄 := iprop(oLoc d ↦[oSet L]{fullShare} f)

theorem pts_iV (q : PosShare TreeShare) (f : Buf (Elt F) (iLoc d)) : ((iV).view.loc (thr d L) ↦{q} f : sProp 𝕄) = iLoc d ↦{q} f := rfl
theorem pts_xV (q : PosShare TreeShare) (f : Buf (Elt F) (xLoc d)) : ((xV).view.loc (thr d L) ↦{q} f : sProp 𝕄) = xLoc d ↦{q} f := rfl
theorem pts_oV (q : PosShare TreeShare) (I : Finset S1472x4096.Idx) (f : Buf (Elt F) (oLoc d)) :
    ((oV).view.loc (thr d L) ↦[I]{q} f : sProp 𝕄) = oLoc d ↦[I]{q} f := rfl
theorem pts_sI (f : Buf (Elt F) ((thr d L).loc cc0_scratch0)) : ((sI).view.loc (thr d L) ↦{fullShare} f : sProp 𝕄) = (thr d L).loc cc0_scratch0 ↦{fullShare} f := rfl
theorem pts_sT (f : Buf (Elt F) ((thr d L).loc cc0_scratch1)) : ((sT).view.loc (thr d L) ↦{fullShare} f : sProp 𝕄) = (thr d L).loc cc0_scratch1 ↦{fullShare} f := rfl
theorem pts_sR (f : Buf (Elt F) ((thr d L).loc cc0_scratch2)) : ((sR).view.loc (thr d L) ↦{fullShare} f : sProp 𝕄) = (thr d L).loc cc0_scratch2 ↦{fullShare} f := rfl

set_option maxHeartbeats 4000000 in
/-- The task of the tile at `L`: it leaves its output rows computed, and hands back what it read and its scratch. -/
theorem tile_body (hF : (K (F := F)).Facts) (fi : S23x4096.Idx → Elt F .i32) (ft : S23x64x100000.Idx → Elt F .f32) (f0 : S1472x4096.Idx → Elt F .f32)
    (hfi : InRange (F := F) fi) (q : PosShare TreeShare) (O : CellTallies nD τ sig (HIx 1)) (W : Waits sig (HIx 1)) (hO : ∀ g, O g none = 0) :
    iprop(levAts (K (F := F)).L (K (F := F)).lev ∗ emp ∗ (ins d fi ft q ∗ outs d L f0)
        ∗ scopedBufs (thr d L) ∗ scopedSems0 (thr d L) ∗ owes (thr d L) O W)
      ⊢ wp frame (wpE (defs₀ (F := F)) 𝒱₀ (thr d L) none) Set.univ
          (cc0_k L iV (Memref.isWhole_whole _) xV (Memref.isWhole_whole _) oV (Memref.isWhole_whole _) sI (Memref.isWhole_whole _)
            sT (Memref.isWhole_whole _) sR (Memref.isWhole_whole _) cc0_scoped0 cc0_scoped1 cc0_scoped2 cc0_scoped3)
          fun _ => iprop((ins d fi ft q ∗ outs d L (G fi ft)) ∗ scopedBufs (thr d L) ∗ scopedSems0 (thr d L)
            ∗ ∃ W', ⌜∀ p ∈ W', p ∈ W ∨ p.2 = none⌝ ∗ owes (thr d L) O W') := by
  simp only [cc0_k_eq_skeleton]
  unfold cc0_k_skel
  simp only [k0_part2_eq_skeleton]
  unfold k0_part2_skel
  rw [(K (F := F)).scopedBufs_V hF d (cV L) (jV L), SparseCore.Cfg.scopedSems0_V (Val := Elt F) d (cV L) (jV L), ownSems0_V, ownBufs_V]
  unfold ins outs
  iintro ⟨#Hlv, -, ⟨⟨Hi, Hx⟩, Ho⟩, ⟨⟨%s0, HI⟩, ⟨%s1, HT⟩, ⟨%s2, HR⟩, Hbufs⟩, ⟨Hs0, Hs1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (Entails.of_eq (pts_iV (F := F) d L _ _).symm) $$ Hi
  ihave Hx := (Entails.of_eq (pts_xV (F := F) d L _ _).symm) $$ Hx
  ihave Ho := (Entails.of_eq (pts_oV (F := F) d L _ _ _).symm) $$ Ho
  ihave HI := (Entails.of_eq (pts_sI (F := F) d L _).symm) $$ HI
  ihave HT := (Entails.of_eq (pts_sT (F := F) d L _).symm) $$ HT
  ihave HR := (Entails.of_eq (pts_sR (F := F) d L _).symm) $$ HR
  sl_exec
  have hsi : IdxHolds L fi ((sI).view.writes (Elt F) (sI).view.junk
      [⟨Rect.unit (s := S2x4096) ![1, 0] S1x4096.size inb_S2x4096_S1x4096_1_0, tile_body.sl.dma0_1 L fi⟩,
        ⟨Rect.unit (s := S2x4096) ![0, 0] S1x4096.size inb_S2x4096_S1x4096_0_0, tile_body.sl.dma0 L fi⟩]) := idx_holds L fi _
  generalize (sI).view.writes (Elt F) (sI).view.junk
      [⟨Rect.unit (s := S2x4096) ![1, 0] S1x4096.size inb_S2x4096_S1x4096_1_0, tile_body.sl.dma0_1 L fi⟩,
        ⟨Rect.unit (s := S2x4096) ![0, 0] S1x4096.size inb_S2x4096_S1x4096_0_0, tile_body.sl.dma0 L fi⟩] = si at hsi ⊢
  sl_for (outer d L fi ft f0 q si O W) $$ [Hx Ho HI HT HR Hs2 Hs3 HO]
  case region => exact fun t _ => outer_trip d L fi ft f0 hfi q si hsi O W t
  · unfold outer scr
    ihave Ho := (Entails.of_eq (pointsTo_congr (ℓ := (oV).view.loc (thr d L)) (mix_zero L fi ft f0))) $$ Ho
    isplitr; · iexact Hmw
    isplitl [Hx]; · iexact Hx
    isplitl [Ho]; · iexact Ho
    isplitl [HI HT HR]
    · iexists _; iexists _
      isplitl [HI]; · iexact HI
      isplitl [HT]; · iexact HT
      iexact HR
    isplitl [Hs2]; · iexact Hs2
    isplitl [Hs3]; · iexact Hs3
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HL
  rw [show Scf.trips k0_t1_loop.lb k0_t1_loop.ub k0_t1_loop.st = 46 from trips1]
  unfold outer scr
  icases HL with ⟨-, Hx, Ho, ⟨%st, %sr, HI, HT, HR⟩, Hs2, Hs3, %W', %hW', HO⟩
  ihave Ho := (Entails.of_eq (pointsTo_congr (ℓ := (oV).view.loc (thr d L)) (mix_all L fi ft f0))) $$ Ho
  sl_step
  isplitl [Hi Hx Ho]
  · isplitl [Hi Hx]
    · isplitl [Hi]; · iexact Hi
      iexact Hx
    iexact Ho
  isplitl [HI HT HR Hbufs]
  · isplitl [HI]; · iexists _; iexact HI
    isplitl [HT]; · iexists _; iexact HT
    isplitl [HR]; · iexists _; iexact HR
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KI
-- ==== Proof.KI.Launch.lean ====
/-
  The launch: what each SparseCore and each tile is handed and brings back, the program on the TensorCore around the
  call, and the run of the whole program with the value of its result.
-/
module

public import proofs.«01_k».proof.Proof.KI.Body

@[expose] public section

noncomputable section

namespace Cert.Proof.KI

open Cert.KernelIdeal Cert.KernelIdeal.Gen
open Idealize.ShloMosaic hiding ix1 ix2 ix3
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.ShloMosaic.Transfers (dealOf pointsTo_deal)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S23x4096 EltTy.i32)
local notation "xV" => (Memref.whole Cert.KernelIdeal.main_v1_scv : Memref Cert.KernelIdeal.sig Kind.scVector Space.hbm Cert.KernelIdeal.S23x64x100000 EltTy.f32)
local notation "oV" => (Memref.whole Cert.KernelIdeal.main_v2_scv : Memref Cert.KernelIdeal.sig Kind.scVector Space.hbm Cert.KernelIdeal.S1472x4096 EltTy.f32)
local notation "sI" => (Memref.whole Cert.KernelIdeal.cc0_scratch0 : Memref Cert.KernelIdeal.sig Kind.scVector Space.vmem Cert.KernelIdeal.S2x4096 EltTy.i32)
local notation "sT" => (Memref.whole Cert.KernelIdeal.cc0_scratch1 : Memref Cert.KernelIdeal.sig Kind.scVector Space.vmem Cert.KernelIdeal.S100000 EltTy.f32)
local notation "sR" => (Memref.whole Cert.KernelIdeal.cc0_scratch2 : Memref Cert.KernelIdeal.sig Kind.scVector Space.vmem Cert.KernelIdeal.S4096 EltTy.f32)

variable (m : (ℓ : Loc nD τ sig) → Buf (Elt F) ℓ) (ρ : Dev nD → PrngReg)

/-! ## The values -/

abbrev aLoc (d : Dev nD) : Loc nD τ sig := (SparseCore.T d).loc main_arg0
abbrev bLoc (d : Dev nD) : Loc nD τ sig := (SparseCore.T d).loc main_arg1
abbrev rLoc (d : Dev nD) : Loc nD τ sig := (SparseCore.T d).loc main_v3

/-- The indices by field: the first argument with its dimensions exchanged. -/
def fiOf (d : Dev nD) : S23x4096.Idx → Elt F .i32 :=
  transpose S23x4096 [1, 0] (m (aLoc d) : S4096x23.Idx → Elt F .i32) transposes_S4096x23_S23x4096_1_0

/-- The tables by field and column: the second argument with its last two dimensions exchanged. -/
def ftOf (d : Dev nD) : S23x64x100000.Idx → Elt F .f32 :=
  transpose S23x64x100000 [0, 2, 1] (m (bLoc d) : S23x100000x64.Idx → Elt F .f32) transposes_S23x100000x64_S23x64x100000_0_2_1

/-- The program's result: the rows the tiles leave with the dimensions exchanged. -/
def resOf (d : Dev nD) : S4096x1472.Idx → Elt F .f32 :=
  transpose S4096x1472 [1, 0] (G (fiOf m d) (ftOf m d)) transposes_S1472x4096_S4096x1472_1_0

/-- What the proof asks of the launch memory: every index names a row of its table. -/
def PreOK : Prop := ∀ (d : Dev nD) (j : S4096x23.Idx), (m (aLoc d) j : BitVec 32).toNat < 100000

theorem inRange_fi (hpre : PreOK m) (d : Dev nD) : InRange (F := F) (fiOf m d) := fun _ => hpre d _

/-! ## What the handshakes carry -/

/-- The grid coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- A core's share of the two inputs, and a tile's share of its core's. -/
def qC (c : Fin 2) : PosShare TreeShare := dealOf fullShare Finset.univ c
def qT (c : Fin 2) (i : Fin 16) : PosShare TreeShare := dealOf (qC c) Finset.univ i

/-- What one tile is handed and brings back: its share of the inputs, its rows of the output at `f`. -/
def tile (d : Dev nD) (f : S1472x4096.Idx → Elt F .f32) (c : Fin 2) (i : Fin 16) : sProp 𝕄 :=
  iprop(ins d (fiOf m d) (ftOf m d) (qT c i) ∗ outs d (coordsV c i) f)

/-- What one core is handed and brings back: its share of the inputs, its tiles' rows of the output at `f`. -/
def core (d : Dev nD) (f : S1472x4096.Idx → Elt F .f32) (c : Fin 2) : sProp 𝕄 :=
  iprop(ins d (fiOf m d) (ftOf m d) (qC c) ∗ bigSep Finset.univ fun i : Fin 16 => outs d (coordsV c i) f)

instance tile_storable (d : Dev nD) (f : S1472x4096.Idx → Elt F .f32) (c : Fin 2) (i : Fin 16) :
    BI.Storable (upEmb : UEmb _ 𝕄) (tile m d f c i) := by
  unfold tile ins outs; infer_instance

instance core_storable (d : Dev nD) (f : S1472x4096.Idx → Elt F .f32) (c : Fin 2) :
    BI.Storable (upEmb : UEmb _ 𝕄) (core m d f c) := by
  unfold core ins outs; infer_instance

theorem nCore_zero : (K (F := F)).nCore 0 = 2 := rfl

/-- The call's payloads: the output at its launch contents on the way in, at the gathered values on the way back. -/
def P : (K (F := F)).Pay (nD := nD) (Val := Elt F) (Name := ℕ) (U := UU) where
  st := fun q d c => match q with | 0 => core m d (m (oLoc d)) (Fin.cast nCore_zero c)
  dn := fun q d c => match q with | 0 => core m d (G (fiOf m d) (ftOf m d)) (Fin.cast nCore_zero c)
  go := fun q d c i => match q with | 0 => tile m d (m (oLoc d)) (Fin.cast nCore_zero c) (Fin.cast nSub_zero i)
  td := fun q d c i => match q with | 0 => tile m d (G (fiOf m d) (ftOf m d)) (Fin.cast nCore_zero c) (Fin.cast nSub_zero i)
  x := fun _ _ => iprop(emp)

instance P_storable : (P (F := F) m).IsStorable where
  st q d c := match q with | 0 => core_storable m d (m (oLoc d)) (Fin.cast nCore_zero c)
  dn q d c := match q with | 0 => core_storable m d (G (fiOf m d) (ftOf m d)) (Fin.cast nCore_zero c)
  go q d c i := match q with | 0 => tile_storable m d (m (oLoc d)) (Fin.cast nCore_zero c) (Fin.cast nSub_zero i)
  td q d c i := match q with | 0 => tile_storable m d (G (fiOf m d) (ftOf m d)) (Fin.cast nCore_zero c) (Fin.cast nSub_zero i)

/-! ## The tile's obligation -/

theorem defs₀_vector (c : Fin τ.nSC) (s : Fin τ.nSub) :
    defs₀ (F := F) (.scVector c s) 0 ()
      = SparseCore.onTile hcore0 hsub0 (fun c s => cc0_k (coordsV c s)
          iV (Memref.isWhole_whole _) xV (Memref.isWhole_whole _) oV (Memref.isWhole_whole _) sI (Memref.isWhole_whole _)
          sT (Memref.isWhole_whole _) sR (Memref.isWhole_whole _) cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, run from what it is handed, ends with what it brings back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fiOf m d) (ftOf m d) (m (oLoc d)) (inRange_fi m hpre d)
    (qT (Fin.cast nCore_zero c) (Fin.cast nSub_zero i)) O W hO).trans (wp_mono frame _ _ fun _ => obl_post)

/-! ## Splitting among the tiles and the cores -/

omit [FloatOps F] in
theorem p0_coords (c : Fin 2) (i : Fin 16) : p0 (coordsV c i) = 92 * i.val + 46 * c.val := rfl

omit [FloatOps F] in
theorem oSets_disjoint : ∀ a ∈ (Finset.univ : Finset (Fin 2 × Fin 16)), ∀ b ∈ (Finset.univ : Finset (Fin 2 × Fin 16)), a ≠ b →
    Disjoint (oSet (coordsV a.1 a.2)) (oSet (coordsV b.1 b.2)) := by
  intro a _ b _ hab
  refine Finset.disjoint_left.mpr fun j ha hb => hab ?_
  rw [mem_oSet, p0_coords] at ha hb
  have h1 := a.1.isLt
  have h2 := b.1.isLt
  exact Prod.ext (Fin.ext (by omega)) (Fin.ext (by omega))

omit [FloatOps F] in
theorem oSets_cover : (Finset.univ : Finset (Fin 2 × Fin 16)).biUnion (fun a => oSet (coordsV a.1 a.2)) = Finset.univ := by
  refine Finset.eq_univ_of_forall fun j => Finset.mem_biUnion.mpr ?_
  have hj := idx2_lt0 j
  refine ⟨(⟨(j 0).val / 46 % 2, by omega⟩, ⟨(j 0).val / 92, by omega⟩), Finset.mem_univ _, ?_⟩
  rw [mem_oSet, p0_coords]
  dsimp only
  omega

/-- The output whole is every tile's rows of it. -/
theorem out_tiles (d : Dev nD) (f : Buf (Elt F) (oLoc d)) :
    (oLoc d ↦{fullShare} f : sProp 𝕄) = bigSep Finset.univ fun c : Fin 2 => bigSep Finset.univ fun i : Fin 16 => outs d (coordsV c i) f := by
  rw [← bigSep_univ_prod (fun a : Fin 2 × Fin 16 => (outs d (coordsV a.1 a.2) f : sProp 𝕄))]
  unfold outs
  rw [← pointsTo_biUnion Finset.univ (ℓ := oLoc d) (fun a : Fin 2 × Fin 16 => oSet (coordsV a.1 a.2)) oSets_disjoint, oSets_cover]

/-- A share of the inputs is the dealt shares of it. -/
theorem ins_deal (d : Dev nD) (fi : S23x4096.Idx → Elt F .i32) (ft : S23x64x100000.Idx → Elt F .f32) (q : PosShare TreeShare) (n : ℕ) :
    (ins d fi ft q : sProp 𝕄) = bigSep Finset.univ fun i : Fin (n + 1) => ins d fi ft (dealOf q Finset.univ i) := by
  unfold ins
  rw [bigSep_sep', ← pointsTo_deal Finset.univ Finset.univ_nonempty q, ← pointsTo_deal Finset.univ Finset.univ_nonempty q]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's payload is its tiles' payloads. -/
theorem core_tiles (d : Dev nD) (f : S1472x4096.Idx → Elt F .f32) (c : Fin 2) :
    core m d f c = bigSep Finset.univ fun i : Fin 16 => tile m d f c i := by
  unfold core tile qT
  rw [bigSep_sep', ins_deal d (fiOf m d) (ftOf m d) (qC c) 15]

/-- The inputs and the output whole are the cores' payloads. -/
theorem all_cores (d : Dev nD) (f : S1472x4096.Idx → Elt F .f32) :
    (iprop(ins d (fiOf m d) (ftOf m d) fullShare ∗ oLoc d ↦{fullShare} f) : sProp 𝕄) = bigSep Finset.univ fun c : Fin 2 => core m d f c := by
  unfold core qC
  rw [bigSep_sep', ins_deal d (fiOf m d) (ftOf m d) fullShare 1, out_tiles]

theorem vecSplit : (K (F := F)).VecSplit' (P m) 0 := by
  intro d c
  show core m d (m (oLoc d)) (Fin.cast nCore_zero c) ⊢ |={Set.univ}=> iprop(
      (bigSep Finset.univ fun i : Fin ((K (F := F)).nSub 0) => tile m d (m (oLoc d)) (Fin.cast nCore_zero c) (Fin.cast nSub_zero i))
      ∗ ((bigSep Finset.univ fun i : Fin ((K (F := F)).nSub 0) => tile m d (G (fiOf m d) (ftOf m d)) (Fin.cast nCore_zero c) (Fin.cast nSub_zero i))
          -∗ core m d (G (fiOf m d) (ftOf m d)) (Fin.cast nCore_zero c)))
  rw [bigSep_tasks (F := F) (fun i => tile m d (m (oLoc d)) (Fin.cast nCore_zero c) i),
    bigSep_tasks (F := F) (fun i => tile m d (G (fiOf m d) (ftOf m d)) (Fin.cast nCore_zero c) i), core_tiles, core_tiles]
  iintro H; imodintro
  isplitl [H]; · iexact H
  iintro H; iexact H

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev b' : DevRef τ sig := Proc.devRef .tc (main_arg1 : Ref sig .tc)
abbrev i' : DevRef τ sig := Proc.devRef .tc (main_v0 : Ref sig .tc)
abbrev x' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opI : HloOp τ sig (Elt F) := StableHlo.unary main_arg0 main_v0
  ((transpose S23x4096 [1, 0] · transposes_S4096x23_S23x4096_1_0) : (⟨S4096x23, .i32⟩ : BufTy).Contents (Elt F) → (⟨S23x4096, .i32⟩ : BufTy).Contents (Elt F))
abbrev opX : HloOp τ sig (Elt F) := StableHlo.unary main_arg1 main_v1
  ((transpose S23x64x100000 [0, 2, 1] · transposes_S23x100000x64_S23x64x100000_0_2_1) :
    (⟨S23x100000x64, .f32⟩ : BufTy).Contents (Elt F) → (⟨S23x64x100000, .f32⟩ : BufTy).Contents (Elt F))
abbrev opR : HloOp τ sig (Elt F) := StableHlo.unary main_v2 main_v3
  ((transpose S4096x1472 [1, 0] · transposes_S1472x4096_S4096x1472_1_0) : (⟨S1472x4096, .f32⟩ : BufTy).Contents (Elt F) → (⟨S4096x1472, .f32⟩ : BufTy).Contents (Elt F))

/-- The TensorCore's arrays, all unscoped. -/
abbrev S6 : Finset (DevRef τ sig) := {a', b', i', x', o', r'}

omit [FloatOps F] in
theorem held_S6 (d : Dev nD) (W : Valuation τ sig (Elt F)) :
    (held (T d) S6 W : sProp 𝕄) = iprop((aLoc d ↦{fullShare} W a') ∗ (bLoc d ↦{fullShare} W b') ∗ (iLoc d ↦{fullShare} W i')
      ∗ (xLoc d ↦{fullShare} W x') ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (iLoc d ↦{fullShare} W main_v0)
      ∗ (xLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The contents at launch, after each transpose before the call, after the call, and at the end. -/
def V0 (d : Dev nD) : Valuation τ sig (Elt F) := fun b => m (d, b)
abbrev V1 (d : Dev nD) : Valuation τ sig (Elt F) := (opI (F := F)).result (V0 m d)
abbrev V2 (d : Dev nD) : Valuation τ sig (Elt F) := (opX (F := F)).result (V1 m d)
def V3 (d : Dev nD) : Valuation τ sig (Elt F) := Function.update (V2 m d) o' (G (fiOf m d) (ftOf m d))
abbrev V4 (d : Dev nD) : Valuation τ sig (Elt F) := (opR (F := F)).result (V3 m d)

theorem unscoped_held (d : Dev nD) : (unscopedBufs d (fun b => m ((SparseCore.T d).loc b)) : sProp 𝕄) = held (T d) S6 (V0 m d) := by
  rw [unscopedBufs_eq, held_S6]; rfl

theorem V1_ne (d : Dev nD) (b : DevRef τ sig) (h : b ≠ i') : V1 m d b = m (d, b) :=
  (opI (F := F)).result_of_not_mem (V0 m d) fun hb => h (Finset.mem_singleton.mp hb)
theorem V2_ne (d : Dev nD) (b : DevRef τ sig) (h : b ≠ x') : V2 m d b = V1 m d b :=
  (opX (F := F)).result_of_not_mem (V1 m d) fun hb => h (Finset.mem_singleton.mp hb)
theorem V4_ne (d : Dev nD) (b : DevRef τ sig) (h : b ≠ r') : V4 m d b = V3 m d b :=
  (opR (F := F)).result_of_not_mem (V3 m d) fun hb => h (Finset.mem_singleton.mp hb)

theorem V2_a (d : Dev nD) : V2 m d a' = m (aLoc d) := (V2_ne m d a' (by decide)).trans (V1_ne m d a' (by decide))
theorem V2_b (d : Dev nD) : V2 m d b' = m (bLoc d) := (V2_ne m d b' (by decide)).trans (V1_ne m d b' (by decide))
theorem V2_o (d : Dev nD) : V2 m d o' = m (oLoc d) := (V2_ne m d o' (by decide)).trans (V1_ne m d o' (by decide))
theorem V2_i (d : Dev nD) : V2 m d i' = fiOf m d :=
  (V2_ne m d i' (by decide)).trans (StableHlo.unary_result main_arg0 main_v0 _ _ _ (V0 m d))
theorem V2_x (d : Dev nD) : V2 m d x' = ftOf m d :=
  (StableHlo.unary_result main_arg1 main_v1 _ _ _ (V1 m d)).trans
    (congrArg (fun f : S23x100000x64.Idx → Elt F .f32 => transpose S23x64x100000 [0, 2, 1] f transposes_S23x100000x64_S23x64x100000_0_2_1)
      (V1_ne m d b' (by decide)))

theorem V3_ne (d : Dev nD) (b : DevRef τ sig) (h : b ≠ o') : V3 m d b = V2 m d b := Function.update_of_ne h _ _
theorem V3_o (d : Dev nD) : V3 m d o' = G (fiOf m d) (ftOf m d) := Function.update_self _ _ _

theorem V4_a (d : Dev nD) : V4 m d a' = m (aLoc d) := (V4_ne m d a' (by decide)).trans ((V3_ne m d a' (by decide)).trans (V2_a m d))
theorem V4_b (d : Dev nD) : V4 m d b' = m (bLoc d) := (V4_ne m d b' (by decide)).trans ((V3_ne m d b' (by decide)).trans (V2_b m d))
theorem V4_r (d : Dev nD) : V4 m d r' = resOf m d :=
  (StableHlo.unary_result main_v2 main_v3 _ _ _ (V3 m d)).trans
    (congrArg (fun f : S1472x4096.Idx → Elt F .f32 => transpose S4096x1472 [1, 0] f transposes_S1472x4096_S4096x1472_1_0) (V3_o m d))

/-- What the call takes for the two SparseCores, and what it hands back. -/
theorem st0_eq (d : Dev nD) : (bigSep Finset.univ fun c : Fin ((K (F := F)).nCore 0) => (P m).st 0 d c)
    = iprop(((iLoc d ↦{fullShare} fiOf m d) ∗ (xLoc d ↦{fullShare} ftOf m d)) ∗ oLoc d ↦{fullShare} m (oLoc d)) :=
  (bigSep_cores (F := F) (fun c => core m d (m (oLoc d)) c)).trans (all_cores m d _).symm
theorem dn0_eq (d : Dev nD) : (bigSep Finset.univ fun c : Fin ((K (F := F)).nCore 0) => (P m).dn 0 d c)
    = iprop(((iLoc d ↦{fullShare} fiOf m d) ∗ (xLoc d ↦{fullShare} ftOf m d)) ∗ oLoc d ↦{fullShare} G (fiOf m d) (ftOf m d)) :=
  (bigSep_cores (F := F) (fun c => core m d (G (fiOf m d) (ftOf m d)) c)).trans (all_cores m d _).symm

theorem hI : (opI (F := F)).bufs ⊆ S6 := show ({a', i'} : Finset (DevRef τ sig)) ⊆ S6 by decide
theorem hX : (opX (F := F)).bufs ⊆ S6 := show ({b', x'} : Finset (DevRef τ sig)) ⊆ S6 by decide
theorem hR : (opR (F := F)).bufs ⊆ S6 := show ({o', r'} : Finset (DevRef τ sig)) ⊆ S6 by decide

/-- What @main leaves: the two arguments at their launch contents, and the result at the gathered values. -/
abbrev FIN (d : Dev nD) : sProp 𝕄 := iprop((aLoc d ↦{fullShare} m (aLoc d)) ∗ (bLoc d ↦{fullShare} m (bLoc d)) ∗ rLoc d ↦{fullShare} resOf m d)

/-- @main on device `d`'s TensorCore: the two transposes, the call, the transpose of what it leaves. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opI) (S := S6) hI (V := V0 m d)) $$ [Hb Hheld]
  · isplitl [Hb] <;> iassumption
  iintro ⟨Hb, Hheld⟩
  rw [wp_ret]; imodintro
  iapply (wp_hlo_within 𝒱 (SparseCore.T d) none Set.univ (op := opX) (S := S6) hX (V := V1 m d)) $$ [Hb Hheld]
  · isplitl [Hb] <;> iassumption
  iintro ⟨Hb, Hheld⟩
  rw [wp_ret]; imodintro
  ihave Hh := (Entails.of_eq (held_S6 (F := F) d (V2 m d))) $$ Hheld
  rw [V2_a, V2_b, V2_i, V2_x, V2_o]
  icases Hh with ⟨Ha, Hbb, Hi, Hx, Ho, Hr⟩
  iapply ((K (F := F)).wp_run (D (F := F)) 𝒱 (EH := EH) (P := P m) κ d 0) $$ [Hst Ha Hbb Hi Hx Ho Hb Hr Hts]
  isplitr; · iexact Hctx
  isplitl [Hst]; · iexact Hst
  isplitl [Hi Hx Ho]
  · rw [st0_eq]
    isplitl [Hi Hx]
    · isplitl [Hi] <;> iassumption
    · iexact Ho
  iintro ⟨Hst, Hdn⟩
  ihave Hdn' := (Entails.of_eq (dn0_eq m d)) $$ Hdn
  icases Hdn' with ⟨⟨Hi, Hx⟩, Ho⟩
  iapply (wp_hlo_within 𝒱 (SparseCore.T d) none Set.univ (op := opR) (S := S6) hR (V := V3 m d)) $$ [Hb Ha Hbb Hi Hx Ho Hr]
  · isplitl [Hb]; · iexact Hb
    rw [held_S6, V3_o, V3_ne m d a' (by decide), V3_ne m d b' (by decide), V3_ne m d i' (by decide), V3_ne m d x' (by decide),
      V3_ne m d r' (by decide), V2_a, V2_b, V2_i, V2_x]
    isplitl [Ha]; · iexact Ha
    isplitl [Hbb]; · iexact Hbb
    isplitl [Hi]; · iexact Hi
    isplitl [Hx]; · iexact Hx
    isplitl [Ho]; · iexact Ho
    iexact Hr
  iintro ⟨Hb, Hheld⟩
  ihave Hh := (Entails.of_eq (held_S6 (F := F) d (V4 m d))) $$ Hheld
  rw [V4_a, V4_b, V4_r]
  icases Hh with ⟨Ha, Hbb, -, -, -, Hr⟩
  rw [wp_ret]; imodintro; imodintro
  isplitl [Hst]; · iexact Hst
  isplitr [Hb Hts]
  · isplitl [Ha]; · iexact Ha
    isplitl [Hbb] <;> iassumption
  isplitl [Hb] <;> iassumption

/-- The final memory's facts: the arguments unchanged, the result the gathered values. -/
def fq (d : Dev nD) (s' : Phys nD τ sig (Elt F)) : Prop :=
  s'.mem.mem (aLoc d) = m (aLoc d) ∧ s'.mem.mem (bLoc d) = m (bLoc d) ∧ s'.mem.mem (rLoc d) = resOf m d

set_option maxRecDepth 16384 in
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem (aLoc c) = m (aLoc c) ∧ r.2.mem (bLoc c) = m (bLoc c) ∧ r.2.mem (rLoc c) = resOf m c) ∧ r.2.sem = fun _ => 0

/-- The program from any memory whose indices are in range: it ends with its arguments unchanged, its result the
    gathered values, and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KI
-- ==== Proof.Ref.lean ====
/-
  The reference's value: at batch element `b` and result column `p`, the table of field `p / 64` at the row the index of
  `b` for that field names and at column `p % 64`.
-/
module

public import proofs.«01_k».proof.Proof.Gen.ReferenceIdeal.Run
public import Idealize.ShloMosaic.Lib.Pipeline.Value
public import Idealize.ShloMosaic.Lib.Pointwise.Reshape
public import Idealize.ShloMosaic.Lib.ReduceAll
public import Idealize.ShloMosaic.Lib.ValueIdxCore

@[expose] public section

noncomputable section

namespace Cert.Proof.Ref

open Cert.ReferenceIdeal Cert.ReferenceIdeal.Gen
open Idealize.ShloMosaic hiding ix1 ix2 ix3
open Idealize.ShloMosaic.ValueIdx

variable {F : FTy → Type} [FloatOps F]

/-! ## Words -/

theorem toInt_small {w : BitVec 32} (h : w.toNat < 100000) : w.toInt = (w.toNat : Int) := by
  rw [BitVec.toInt_eq_toNat_cond]; omega

theorem not_neg {w : BitVec 32} (h : w.toNat < 100000) : IntOp.cmpi .slt w 0#32 = 0#1 := by
  have : w.slt 0#32 = false := by
    rw [BitVec.slt_eq_decide, toInt_small h]; simp
  simp only [IntOp.cmpi, this]; rfl

theorem in_bounds {w : BitVec 32} (h : w.toNat < 100000) : IntOp.andi (IntOp.cmpi .sge w 0#32) (IntOp.cmpi .sle w 99999#32) = 1#1 := by
  have h1 : (0#32 : BitVec 32).sle w = true := by
    rw [BitVec.sle_eq_decide, toInt_small h]; simp
  have h2 : w.sle 99999#32 = true := by
    rw [BitVec.sle_eq_decide, toInt_small h, decide_eq_true_eq]
    show _ ≤ (99999 : Int)
    omega
  simp only [IntOp.cmpi, h1, h2]; rfl

/-! ## The start indices -/

/-- The reference's indices once negative ones are wrapped. -/
def wrapped (a : S4096x23.Idx → BitVec 32) : S4096x23.Idx → BitVec 32 :=
  select (cmpi .slt a (broadcastInDim S4096x23 ![] bcast_S_S4096x23 (constantI S_ 32 0#32)))
    (addi a (broadcastInDim S4096x23 ![] bcast_S_S4096x23 (constantI S_ 32 100000#32))) a

/-- No index in range is wrapped. -/
theorem wrapped_eq (a : S4096x23.Idx → BitVec 32) (ha : ∀ j, (a j).toNat < 100000) : wrapped a = a := by
  funext j
  show Scalar.select (IntOp.cmpi .slt (a j) 0#32) _ (a j) = a j
  rw [not_neg (ha j)]
  rfl

/-- The start indices: by field, then batch element. -/
def starts (a : S4096x23.Idx → BitVec 32) : S23x4096x1.Idx → BitVec 32 :=
  broadcastInDim S23x4096x1 ![0, 1] bcast_S23x4096_S23x4096x1_0_1 (transpose S23x4096 [1, 0] (wrapped a) transposes_S4096x23_S23x4096_1_0)

theorem starts_apply (a : S4096x23.Idx → BitVec 32) (ha : ∀ j, (a j).toNat < 100000) (f : Fin 23) (b : Fin 4096) (z : Fin 1) :
    starts a (ix3 f b z) = a (ix2 b f) := by
  unfold starts
  rw [wrapped_eq a ha]
  refine (broadcastInDim_apply _ _ _ (ix3 f b z) (ix2 f b) fun c => match c with | ⟨0, _⟩ => rfl | ⟨1, _⟩ => rfl).trans ?_
  exact transpose_apply _ a _ (ix2 f b) (ix2 b f) fun c => match c with | ⟨0, _⟩ => rfl | ⟨1, _⟩ => rfl

/-! ## The gather -/

/-- The gather read at field `f`, batch element `b`, column `c`: that field's table at the row the start index names,
    read signed and clamped to the table, and at column `c`. -/
theorem gather_apply {α : Type} (x : S23x100000x64.Idx → α) (idx : IVec S23x4096x1 32) (f : Fin 23) (b : Fin 4096) (c : Fin 64) :
    Host.gather gather_S23x100000x64_S23x4096x1_S23x4096x64_2_1_0_0_1_2_1164 x idx (ix3 f b c)
      = x (ix3 f ⟨min (idx (ix3 f b 0)).toInt.toNat 99999, by omega⟩ c) := by
  set D := gather_S23x100000x64_S23x4096x1_S23x4096x64_2_1_0_0_1_2_1164 with hD
  unfold Host.gather
  congr 1
  funext a
  refine Fin.ext ?_
  show D.start (ix3 f b c) idx a + D.batchCoord (ix3 f b c) a + D.offCoord (ix3 f b c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ D.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ D.startIndexMap from List.mem_singleton.mpr rfl)]
    have hsi : D.siIdx (ix3 f b c) ⟨List.idxOf (1 : Fin 3) D.startIndexMap, List.idxOf_lt_length_iff.2 (List.mem_singleton.mpr rfl)⟩ = ix3 f b 0 := by
      funext e; refine Fin.ext ?_
      match e with
      | ⟨0, _⟩ => rfl
      | ⟨1, _⟩ => rfl
      | ⟨2, _⟩ => rfl
    rw [hsi]
    rfl
  · rw [GatherDims.batchCoord_eq_zero _ _ _ (fun h => absurd (List.mem_singleton.mp h) (by decide))]
    unfold GatherDims.start
    rw [dif_neg (show (2 : Fin 3) ∉ D.startIndexMap from fun h => absurd (List.mem_singleton.mp h) (by decide))]
    simp only [Nat.zero_add]
    unfold GatherDims.offCoord
    rw [dif_pos ((GatherDims.mem_sKept _ _).mpr ⟨fun h => absurd (List.mem_singleton.mp h) (by decide), fun h => absurd (List.mem_singleton.mp h) (by decide)⟩)]
    rfl

/-! ## The result -/

/-- The reference's result: `Cert.ReferenceIdeal.Value.run`'s term for it. -/
def result (a : S4096x23.Idx → BitVec 32) (t : S23x100000x64.Idx → Elt F .f32) : S4096x1472.Idx → Elt F .f32 :=
  shapeCast S4096x1472 (transpose S4096x23x64 [1, 0, 2]
    (select (broadcastInDim S23x4096x64 ![0, 1] bcast_S23x4096_S23x4096x64_0_1
        (Host.reduce IntOp.andi (andi (cmpi .sge (starts a) (broadcastInDim S23x4096x1 ![] bcast_S_S23x4096x1 (constantI S_ 32 0#32)))
            (cmpi .sle (starts a) (broadcastInDim S23x4096x1 ![0, 1, 2] bcast_S1x1x1_S23x4096x1_0_1_2
              (broadcastInDim S1x1x1 ![2] bcast_S1_S1x1x1_2 (constantI S1 32 99999#32)))))
          (constantI S_ 1 1#1) reducesTo_S23x4096x1_S23x4096_d2 h_S_))
      (Host.gather gather_S23x100000x64_S23x4096x1_S23x4096x64_2_1_0_0_1_2_1164 t (starts a))
      (broadcastInDim S23x4096x64 ![] bcast_S_S23x4096x64 (constant S_ .f32 0x7FC00000#32)))
    transposes_S23x4096x64_S4096x23x64_1_0_2) shapeCasts_S4096x23x64_S4096x1472

/-- With every index in range, every start index lies within its table. -/
theorem mask_one (a : S4096x23.Idx → BitVec 32) (ha : ∀ j, (a j).toNat < 100000) (j : S23x4096.Idx) :
    Host.reduce IntOp.andi (andi (cmpi .sge (starts a) (broadcastInDim S23x4096x1 ![] bcast_S_S23x4096x1 (constantI S_ 32 0#32)))
        (cmpi .sle (starts a) (broadcastInDim S23x4096x1 ![0, 1, 2] bcast_S1x1x1_S23x4096x1_0_1_2
          (broadcastInDim S1x1x1 ![2] bcast_S1_S1x1x1_2 (constantI S1 32 99999#32)))))
      (constantI S_ 1 1#1) reducesTo_S23x4096x1_S23x4096_d2 h_S_ j = 1#1 := by
  refine Host.reduce_andi_one _ _ _ _ _ rfl fun i => ?_
  show IntOp.andi (IntOp.cmpi .sge (starts a i) 0#32) (IntOp.cmpi .sle (starts a i) 99999#32) = 1#1
  exact in_bounds (lt_of_eq_of_lt (congrArg BitVec.toNat ((congrArg (starts a) (ValueIdx.eq_ix3 i)).trans
    (starts_apply a ha (i 0) (i 1) (i 2)))) (ha _))

/-- The result at batch element `b` and column `p`. -/
theorem result_apply (a : S4096x23.Idx → BitVec 32) (ha : ∀ j, (a j).toNat < 100000) (t : S23x100000x64.Idx → Elt F .f32)
    (b : Fin 4096) (p : Fin 1472) (f : Fin 23) (c : Fin 64) (hf : p.val = f.val * 64 + c.val) :
    result a t (ix2 b p) = t (ix3 f ⟨(a (ix2 b f)).toNat, ha _⟩ c) := by
  unfold result
  refine (shapeCast_apply _ _ (ix2 b p) (ix3 b f c) ?_).trans ?_
  · rw [rowMajor_val3 (d := ![4096, 23, 64]) _ 1472 64 rfl rfl, rowMajor_val2 (d := ![4096, 1472]) _ 1472 rfl]
    show b.val * 1472 + f.val * 64 + c.val = b.val * 1472 + p.val
    omega
  refine (transpose_apply _ _ _ (ix3 b f c) (ix3 f b c) fun e => match e with | ⟨0, _⟩ => rfl | ⟨1, _⟩ => rfl | ⟨2, _⟩ => rfl).trans ?_
  rw [select_apply]
  rw [show ∀ (w : S23x4096.Idx → BitVec 1) (j : S23x4096x64.Idx), (∀ i, w i = 1#1) →
      broadcastInDim S23x4096x64 ![0, 1] bcast_S23x4096_S23x4096x64_0_1 w j = 1#1 from fun w j hw => hw _]
  · refine (if_pos rfl).trans ?_
    rw [gather_apply]
    refine congrArg t (congrArg (fun v => ix3 f v c) (Fin.ext ?_))
    show min (starts a (ix3 f b 0)).toInt.toNat 99999 = (a (ix2 b f)).toNat
    have := ha (ix2 b f)
    rw [starts_apply a ha, toInt_small this]
    omega
  · exact mask_one a ha

end Cert.Proof.Ref
-- ==== Proof.Range.lean ====
/-
  What the precondition says of the indices: every one of them names a row of its table.
-/
module

public import proofs.«01_k».proof.Proof.Gen.Pre_in_range
public import Idealize.ShloMosaic.Lib.ReduceAll

@[expose] public section

noncomputable section

namespace Cert.Proof

open Idealize.ShloMosaic
open Cert.Pre_in_range

/-- A word that is nonnegative and below 100000, read signed, is below 100000 read unsigned. -/
theorem word_in_range (v : BitVec 32) (e : IntOp.andi (IntOp.cmpi .sge v 0#32) (IntOp.cmpi .slt v 100000#32) = 1#1) : v.toNat < 100000 := by
  obtain ⟨h0, h1⟩ := IntOp.andi_eq_one.1 e
  have true_of (p : Bool) (h : BitVec.ofBool p = 1#1) : p = true := by revert h; cases p <;> decide
  have h0' := true_of _ h0
  have h1' := true_of _ h1
  rw [BitVec.sle_iff_toInt_le] at h0'
  rw [BitVec.slt_iff_toInt_lt] at h1'
  change (0 : Int) ≤ v.toInt at h0'
  change v.toInt < (100000 : Int) at h1'
  rw [BitVec.toInt_eq_toNat_cond] at h0' h1'
  split at h0' <;> omega

instance : Subsingleton S_.Idx := ⟨fun x y => funext fun a => a.elim0⟩

/-- Where the precondition is true, every index is below 100000. -/
theorem indices_in_range {F : FTy → Type} [FloatOps F] (a : IVec S4096x23 32) (t : FVec F S23x100000x64 .f32)
    (h : Cert.Pre_in_range.fn (F := F) a t = fun _ => 1#1) (j : S4096x23.Idx) : (a j).toNat < 100000 := by
  have e := congrFun h (fun i => i.elim0)
  unfold Cert.Pre_in_range.fn at e
  exact word_in_range (a j) (Host.reduce_andi_all _ _ _ _ _ e j)

end Cert.Proof
-- ==== Proof.Algebraic.lean ====
/-
  The two programs' results are the same: at batch element `b` and column `p` both are the table of field `p / 64` at the
  row the index of `b` for that field names and at column `p % 64`.
-/
module

public import proofs.«01_k».proof.Defs
public import proofs.«01_k».proof.Proof.KI.Launch
public import proofs.«01_k».proof.Proof.Ref
public import proofs.«01_k».proof.Proof.Range

@[expose] public section

noncomputable section

namespace Cert.Proof

open Cert.KernelIdeal Cert.KernelIdeal.Gen
open Idealize.ShloMosaic hiding ix1 ix2 ix3
open Idealize.ShloMosaic.ValueIdx
open Idealize.SL.Sem

/-- The kernel's indices by field, at field `f` and batch element `b`. -/
theorem fi_apply {F : FTy → Type} (m : (ℓ : Loc nD τ sig) → Buf (Elt F) ℓ) (d : Dev nD) (f : Fin 23) (b : Fin 4096) :
    KI.fiOf m d (ix2 f b) = (m (KI.aLoc d) : S4096x23.Idx → Elt F .i32) (ix2 b f) :=
  transpose_apply _ (m (KI.aLoc d) : S4096x23.Idx → Elt F .i32) transposes_S4096x23_S23x4096_1_0 (ix2 f b) (ix2 b f)
    fun c => match c with | ⟨0, _⟩ => rfl | ⟨1, _⟩ => rfl

/-- The kernel's tables by field and column, at field `f`, column `c` and row `v`. -/
theorem ft_apply {F : FTy → Type} (m : (ℓ : Loc nD τ sig) → Buf (Elt F) ℓ) (d : Dev nD) (f : Fin 23) (c : Fin 64) (v : Fin 100000) :
    KI.ftOf m d (ix3 f c v) = (m (KI.bLoc d) : S23x100000x64.Idx → Elt F .f32) (ix3 f v c) :=
  transpose_apply _ (m (KI.bLoc d) : S23x100000x64.Idx → Elt F .f32) transposes_S23x100000x64_S23x64x100000_0_2_1 (ix3 f c v) (ix3 f v c)
    fun e => match e with | ⟨0, _⟩ => rfl | ⟨1, _⟩ => rfl | ⟨2, _⟩ => rfl

/-- The kernel's result at batch element `b` and column `p`. -/
theorem kernel_apply {F : FTy → Type} [FloatOps F] (m : (ℓ : Loc nD τ sig) → Buf (Elt F) ℓ) (hm : KI.PreOK m) (d : Dev nD) (b : Fin 4096) (p : Fin 1472) :
    KI.resOf m d (ix2 b p)
      = (m (KI.bLoc d) : S23x100000x64.Idx → Elt F .f32) (ix3 (KI.fieldOf p.val p.isLt) ⟨(m (KI.aLoc d) (ix2 b (KI.fieldOf p.val p.isLt)) : BitVec 32).toNat, hm d _⟩
          (KI.colOf p.val)) := by
  unfold KI.resOf
  refine (transpose_apply _ (KI.G (KI.fiOf m d) (KI.ftOf m d)) _ (ix2 b p) (ix2 p b) fun c => match c with | ⟨0, _⟩ => rfl | ⟨1, _⟩ => rfl).trans ?_
  refine (ft_apply m d _ _ _).trans ?_
  refine congrArg (m (KI.bLoc d)) (congrArg (fun v => ix3 (KI.fieldOf p.val p.isLt) v (KI.colOf p.val)) (Fin.ext ?_))
  exact (congrArg (fun w => (KI.vocab w).val) (fi_apply m d _ b)).trans (Nat.mod_eq_of_lt (hm d _))

/-- The precondition gives the kernel's proof what it asks of the launch memory. -/
theorem ok_ideal (m : (ℓ : Loc nD τ sig) → Buf (Elt Ideal) ℓ) (h : Cert.Pre_KernelIdeal m) : KI.PreOK (F := Ideal) m :=
  fun d j => indices_in_range (F := Ideal) _ _ (h d) j

/-- The kernel's result is the reference's, from the same arguments. -/
theorem results_eq (m : (ℓ : Loc nD τ sig) → Buf (Elt Ideal) ℓ) (hm : KI.PreOK m) (d : Dev nD) :
    Ref.result (F := Ideal) (m (KI.aLoc d)) (m (KI.bLoc d)) = KI.resOf m d := by
  funext j
  rw [ValueIdx.eq_ix2 j]
  exact (Ref.result_apply _ (hm d) _ (j 0) (j 1) (KI.fieldOf (j 1).val (j 1).isLt) (KI.colOf (j 1).val)
    (show (j 1).val = (j 1).val / 64 * 64 + (j 1).val % 64 by omega)).trans (kernel_apply m hm d (j 0) (j 1)).symm

/-- Both programs run, end with equal results and leave their arguments unchanged. -/
theorem algebraic : Cert.algebraic_KernelIdeal_ReferenceIdeal := by
  intro m g m' g' hpre heq
  have hm := ok_ideal m hpre
  refine ⟨fun c => KI.resOf m c, ?_, ?_⟩
  · exact (θ_run Cert.KernelIdeal.defs _ _).mono (fun _ h c => ⟨(h.1 c).2.2, (h.1 c).1, (h.1 c).2.1⟩) (KI.run_main (F := Ideal) m g hm)
  · refine (θ_run Cert.ReferenceIdeal.defs _ _).mono (fun _ h c => ⟨(h c).1.trans ?_, (h c).2⟩) (Cert.ReferenceIdeal.Value.run m' g')
    have e := results_eq m hm c
    rw [show m (KI.aLoc c) = _ from (heq c).1.symm, show m (KI.bLoc c) = _ from (heq c).2.symm] at e
    exact e

end Cert.Proof
-- ==== Proof.lean ====
/-
  The proof of `Cert.Claim` (proofs.«01_k».proof.Defs): the frames of the kernel, of the idealized kernel and of the
  idealized reference, and the equality of the idealized results.

    Proof/K/ and Proof/KI/  the kernel as printed and the idealized kernel, the same text over each program:
                            Words (the words a tile computes), Value (what its copies and indexed loads read and write),
                            Setup (the launch's buffers and semaphores), Body (a tile's task), Launch (the whole run)
    Proof/Ref.lean          the reference's value at an element
    Proof/Range.lean        what the precondition says of the indices
    Proof/Algebraic.lean    the two results are equal
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.K.Launch
public import proofs.«01_k».proof.Proof.Algebraic

@[expose] public section

noncomputable section

namespace Cert.Proof

open Idealize.ShloMosaic Idealize.SL.Sem

/-- The precondition gives the printed kernel's proof what it asks of the launch memory. -/
theorem ok_printed (m : (ℓ : Loc Cert.Kernel.nD Cert.Kernel.τ Cert.Kernel.sig) → Buf (Elt Bits) ℓ) (h : Cert.Pre_Kernel m) : K.PreOK (F := Bits) m :=
  fun d j => indices_in_range (F := Bits) _ _ (h d) j

/-- The printed kernel runs, leaves its arguments unchanged and every semaphore at zero. -/
theorem frame_kernel : Cert.quiescent_Kernel := fun m ρ hpre =>
  (θ_run Cert.Kernel.defs _ _).mono (fun _ h => ⟨fun c => ⟨(h.1 c).1, (h.1 c).2.1⟩, h.2⟩) (K.run_main (F := Bits) m ρ (ok_printed m hpre))

/-- The idealized kernel runs, leaves its arguments unchanged and every semaphore at zero. -/
theorem frame_ideal : Cert.quiescent_KernelIdeal := fun m ρ hpre =>
  (θ_run Cert.KernelIdeal.defs _ _).mono (fun _ h => ⟨fun c => ⟨(h.1 c).1, (h.1 c).2.1⟩, h.2⟩) (KI.run_main (F := Ideal) m ρ (ok_ideal m hpre))

/-- The reference runs, leaves its arguments unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference under the precondition. -/
theorem frame_reference_pre : Cert.quiescent_ReferenceIdeal_pre_in_range := fun m ρ _ => frame_reference m ρ trivial

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, trivial, algebraic⟩

end Cert.Proof

end
